-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x64 : Shape := ⟨3, ![1, 2048, 64]⟩
abbrev S128x2 : Shape := ⟨2, ![128, 2]⟩
abbrev S2048x2 : Shape := ⟨2, ![2048, 2]⟩
abbrev S8x2048 : Shape := ⟨2, ![8, 2048]⟩
abbrev S2x64 : Shape := ⟨2, ![2, 64]⟩
abbrev S64 : Shape := ⟨1, ![64]⟩
abbrev S128x1024 : Shape := ⟨2, ![128, 1024]⟩
abbrev S1024 : Shape := ⟨1, ![1024]⟩
abbrev S1024x1 : Shape := ⟨2, ![1024, 1]⟩
abbrev S1 : Shape := ⟨1, ![1]⟩
abbrev S128x512 : Shape := ⟨2, ![128, 512]⟩
abbrev S512 : Shape := ⟨1, ![512]⟩
abbrev S512x1024 : Shape := ⟨2, ![512, 1024]⟩
abbrev S_ : Shape := ⟨0, ![]⟩
abbrev S1x2048 : Shape := ⟨2, ![1, 2048]⟩
abbrev S2048 : Shape := ⟨1, ![2048]⟩

class Facts : Prop where
  bcast_S_S1x2048x64 : S_.BroadcastsInDim S1x2048x64 (![] : Fin 0 → Fin S1x2048x64.rank)
  bcast_S_S2048x2 : S_.BroadcastsInDim S2048x2 (![] : Fin 0 → Fin S2048x2.rank)
  slices_S8x2048_S1x2048_7_0 : S8x2048.Slices ![7, 0] S1x2048
  shapeCasts_S1x2048_S2048 : S1x2048.ShapeCasts S2048
  bcast_S_S2048 : S_.BroadcastsInDim S2048 (![] : Fin 0 → Fin S2048.rank)
  bcast_S_S2x64 : S_.BroadcastsInDim S2x64 (![] : Fin 0 → Fin S2x64.rank)
  bcast_S_S64 : S_.BroadcastsInDim S64 (![] : Fin 0 → Fin S64.rank)
  bcast_S_S128x1024 : S_.BroadcastsInDim S128x1024 (![] : Fin 0 → Fin S128x1024.rank)
  bcast_S_S1024 : S_.BroadcastsInDim S1024 (![] : Fin 0 → Fin S1024.rank)
  bcast_S_S1024x1 : S_.BroadcastsInDim S1024x1 (![] : Fin 0 → Fin S1024x1.rank)
  bcast_S_S1 : S_.BroadcastsInDim S1 (![] : Fin 0 → Fin S1.rank)
  bcast_S_S128x512 : S_.BroadcastsInDim S128x512 (![] : Fin 0 → Fin S128x512.rank)
  bcast_S_S512 : S_.BroadcastsInDim S512 (![] : Fin 0 → Fin S512.rank)
  bcast_S_S512x1024 : S_.BroadcastsInDim S512x1024 (![] : Fin 0 → Fin S512x1024.rank)

variable [Facts]

def fn_part3 {F : FTy → Type} [FloatOps F] (main_arg18 : FVec F S512 .f32) (main_arg19 : FVec F S512 .f32) (main_arg20 : FVec F S512 .f32) (main_arg21 : FVec F S512x1024 .f32) (main_arg23 : FVec F S1024 .f32) (main_v2 : IVec S1x2048x64 1) (main_v5 : IVec S2048x2 1) (main_v10 : IVec S2048 1) (main_v15 : IVec S2048 1) (main_v18 : IVec S2x64 1) (main_v21 : IVec S64 1) (main_v24 : IVec S2x64 1) (main_v27 : IVec S64 1) (main_v30 : IVec S128x1024 1) (main_v33 : IVec S1024 1) (main_v36 : IVec S1024 1) (main_v39 : IVec S1024 1) (main_v42 : IVec S1024x1 1) (main_v45 : IVec S1 1) (main_v48 : IVec S1 1) (main_v51 : IVec S1 1) (main_v54 : IVec S128x512 1) : IVec S1x2048x64 1 × IVec S2048x2 1 × IVec S2048 1 × IVec S2048 1 × IVec S2x64 1 × IVec S64 1 × IVec S2x64 1 × IVec S64 1 × IVec S128x1024 1 × IVec S1024 1 × IVec S1024 1 × IVec S1024 1 × IVec S1024x1 1 × IVec S1 1 × IVec S1 1 × IVec S1 1 × IVec S128x512 1 × IVec S512 1 × IVec S512 1 × IVec S512 1 × IVec S512x1024 1 × IVec S1024 1 :=
  let main_v55 : FVec F S512 .f32 := Host.absf main_arg18
  let main_cst_16 : FVec F S_ .f32 := constant S_ .f32 0x7F800000#32
  let main_v56 : FVec F S512 .f32 := broadcastInDim S512 ![] bcast_S_S512 main_cst_16
  let main_v57 : IVec S512 1 := cmpf .olt main_v55 main_v56
  let main_v58 : FVec F S512 .f32 := Host.absf main_arg19
  let main_cst_17 : FVec F S_ .f32 := constant S_ .f32 0x7F800000#32
  let main_v59 : FVec F S512 .f32 := broadcastInDim S512 ![] bcast_S_S512 main_cst_17
  let main_v60 : IVec S512 1 := cmpf .olt main_v58 main_v59
  let main_v61 : FVec F S512 .f32 := Host.absf main_arg20
  let main_cst_18 : FVec F S_ .f32 := constant S_ .f32 0x7F800000#32
  let main_v62 : FVec F S512 .f32 := broadcastInDim S512 ![] bcast_S_S512 main_cst_18
  let main_v63 : IVec S512 1 := cmpf .olt main_v61 main_v62
  let main_v64 : FVec F S512x1024 .f32 := Host.absf main_arg21
  let main_cst_19 : FVec F S_ .f32 := constant S_ .f32 0x7F800000#32
  let main_v65 : FVec F S512x1024 .f32 := broadcastInDim S512x1024 ![] bcast_S_S512x1024 main_cst_19
  let main_v66 : IVec S512x1024 1 := cmpf .olt main_v64 main_v65
  let main_v67 : FVec F S1024 .f32 := Host.absf main_arg23
  let main_cst_20 : FVec F S_ .f32 := constant S_ .f32 0x7F800000#32
  let main_v68 : FVec F S1024 .f32 := broadcastInDim S1024 ![] bcast_S_S1024 main_cst_20
  let main_v69 : IVec S1024 1 := cmpf .olt main_v67 main_v68
  (main_v2, main_v5, main_v10, main_v15, main_v18, main_v21, main_v24, main_v27, main_v30, main_v33, main_v36, main_v39, main_v42, main_v45, main_v48, main_v51, main_v54, main_v57, main_v60, main_v63, main_v66, main_v69)

def fn_part2 {F : FTy → Type} [FloatOps F] (main_arg12 : FVec F S1024 .f32) (main_arg13 : FVec F S1024x1 .f32) (main_arg14 : FVec F S1 .f32) (main_arg15 : FVec F S1 .f32) (main_arg16 : FVec F S1 .f32) (main_arg17 : FVec F S128x512 .f32) (main_arg18 : FVec F S512 .f32) (main_arg19 : FVec F S512 .f32) (main_arg20 : FVec F S512 .f32) (main_arg21 : FVec F S512x1024 .f32) (main_arg23 : FVec F S1024 .f32) (main_v2 : IVec S1x2048x64 1) (main_v5 : IVec S2048x2 1) (main_v10 : IVec S2048 1) (main_v15 : IVec S2048 1) (main_v18 : IVec S2x64 1) (main_v21 : IVec S64 1) (main_v24 : IVec S2x64 1) (main_v27 : IVec S64 1) (main_v30 : IVec S128x1024 1) (main_v33 : IVec S1024 1) (main_v36 : IVec S1024 1) : IVec S1x2048x64 1 × IVec S2048x2 1 × IVec S2048 1 × IVec S2048 1 × IVec S2x64 1 × IVec S64 1 × IVec S2x64 1 × IVec S64 1 × IVec S128x1024 1 × IVec S1024 1 × IVec S1024 1 × IVec S1024 1 × IVec S1024x1 1 × IVec S1 1 × IVec S1 1 × IVec S1 1 × IVec S128x512 1 × IVec S512 1 × IVec S512 1 × IVec S512 1 × IVec S512x1024 1 × IVec S1024 1 :=
  let main_v37 : FVec F S1024 .f32 := Host.absf main_arg12
  let main_cst_10 : FVec F S_ .f32 := constant S_ .f32 0x7F800000#32
  let main_v38 : FVec F S1024 .f32 := broadcastInDim S1024 ![] bcast_S_S1024 main_cst_10
  let main_v39 : IVec S1024 1 := cmpf .olt main_v37 main_v38
  let main_v40 : FVec F S1024x1 .f32 := Host.absf main_arg13
  let main_cst_11 : FVec F S_ .f32 := constant S_ .f32 0x7F800000#32
  let main_v41 : FVec F S1024x1 .f32 := broadcastInDim S1024x1 ![] bcast_S_S1024x1 main_cst_11
  let main_v42 : IVec S1024x1 1 := cmpf .olt main_v40 main_v41
  let main_v43 : FVec F S1 .f32 := Host.absf main_arg14
  let main_cst_12 : FVec F S_ .f32 := constant S_ .f32 0x7F800000#32
  let main_v44 : FVec F S1 .f32 := broadcastInDim S1 ![] bcast_S_S1 main_cst_12
  let main_v45 : IVec S1 1 := cmpf .olt main_v43 main_v44
  let main_v46 : FVec F S1 .f32 := Host.absf main_arg15
  let main_cst_13 : FVec F S_ .f32 := constant S_ .f32 0x7F800000#32
  let main_v47 : FVec F S1 .f32 := broadcastInDim S1 ![] bcast_S_S1 main_cst_13
  let main_v48 : IVec S1 1 := cmpf .olt main_v46 main_v47
  let main_v49 : FVec F S1 .f32 := Host.absf main_arg16
  let main_cst_14 : FVec F S_ .f32 := constant S_ .f32 0x7F800000#32
  let main_v50 : FVec F S1 .f32 := broadcastInDim S1 ![] bcast_S_S1 main_cst_14
  let main_v51 : IVec S1 1 := cmpf .olt main_v49 main_v50
  let main_v52 : FVec F S128x512 .f32 := Host.absf main_arg17
  let main_cst_15 : FVec F S_ .f32 := constant S_ .f32 0x7F800000#32
  let main_v53 : FVec F S128x512 .f32 := broadcastInDim S128x512 ![] bcast_S_S128x512 main_cst_15
  let main_v54 : IVec S128x512 1 := cmpf .olt main_v52 main_v53
  fn_part3 (F := F) main_arg18 main_arg19 main_arg20 main_arg21 main_arg23 main_v2 main_v5 main_v10 main_v15 main_v18 main_v21 main_v24 main_v27 main_v30 main_v33 main_v36 main_v39 main_v42 main_v45 main_v48 main_v51 main_v54

def fn_part1 {F : FTy → Type} [FloatOps F] (main_arg6 : FVec F S64 .f32) (main_arg7 : FVec F S2x64 .f32) (main_arg8 : FVec F S64 .f32) (main_arg9 : FVec F S128x1024 .f32) (main_arg10 : FVec F S1024 .f32) (main_arg11 : FVec F S1024 .f32) (main_arg12 : FVec F S1024 .f32) (main_arg13 : FVec F S1024x1 .f32) (main_arg14 : FVec F S1 .f32) (main_arg15 : FVec F S1 .f32) (main_arg16 : FVec F S1 .f32) (main_arg17 : FVec F S128x512 .f32) (main_arg18 : FVec F S512 .f32) (main_arg19 : FVec F S512 .f32) (main_arg20 : FVec F S512 .f32) (main_arg21 : FVec F S512x1024 .f32) (main_arg23 : FVec F S1024 .f32) (main_v2 : IVec S1x2048x64 1) (main_v5 : IVec S2048x2 1) (main_v10 : IVec S2048 1) (main_v15 : IVec S2048 1) (main_v18 : IVec S2x64 1) : IVec S1x2048x64 1 × IVec S2048x2 1 × IVec S2048 1 × IVec S2048 1 × IVec S2x64 1 × IVec S64 1 × IVec S2x64 1 × IVec S64 1 × IVec S128x1024 1 × IVec S1024 1 × IVec S1024 1 × IVec S1024 1 × IVec S1024x1 1 × IVec S1 1 × IVec S1 1 × IVec S1 1 × IVec S128x512 1 × IVec S512 1 × IVec S512 1 × IVec S512 1 × IVec S512x1024 1 × IVec S1024 1 :=
  let main_v19 : FVec F S64 .f32 := Host.absf main_arg6
  let main_cst_4 : FVec F S_ .f32 := constant S_ .f32 0x7F800000#32
  let main_v20 : FVec F S64 .f32 := broadcastInDim S64 ![] bcast_S_S64 main_cst_4
  let main_v21 : IVec S64 1 := cmpf .olt main_v19 main_v20
  let main_v22 : FVec F S2x64 .f32 := Host.absf main_arg7
  let main_cst_5 : FVec F S_ .f32 := constant S_ .f32 0x7F800000#32
  let main_v23 : FVec F S2x64 .f32 := broadcastInDim S2x64 ![] bcast_S_S2x64 main_cst_5
  let main_v24 : IVec S2x64 1 := cmpf .olt main_v22 main_v23
  let main_v25 : FVec F S64 .f32 := Host.absf main_arg8
  let main_cst_6 : FVec F S_ .f32 := constant S_ .f32 0x7F800000#32
  let main_v26 : FVec F S64 .f32 := broadcastInDim S64 ![] bcast_S_S64 main_cst_6
  let main_v27 : IVec S64 1 := cmpf .olt main_v25 main_v26
  let main_v28 : FVec F S128x1024 .f32 := Host.absf main_arg9
  let main_cst_7 : FVec F S_ .f32 := constant S_ .f32 0x7F800000#32
  let main_v29 : FVec F S128x1024 .f32 := broadcastInDim S128x1024 ![] bcast_S_S128x1024 main_cst_7
  let main_v30 : IVec S128x1024 1 := cmpf .olt main_v28 main_v29
  let main_v31 : FVec F S1024 .f32 := Host.absf main_arg10
  let main_cst_8 : FVec F S_ .f32 := constant S_ .f32 0x7F800000#32
  let main_v32 : FVec F S1024 .f32 := broadcastInDim S1024 ![] bcast_S_S1024 main_cst_8
  let main_v33 : IVec S1024 1 := cmpf .olt main_v31 main_v32
  let main_v34 : FVec F S1024 .f32 := Host.absf main_arg11
  let main_cst_9 : FVec F S_ .f32 := constant S_ .f32 0x7F800000#32
  let main_v35 : FVec F S1024 .f32 := broadcastInDim S1024 ![] bcast_S_S1024 main_cst_9
  let main_v36 : IVec S1024 1 := cmpf .olt main_v34 main_v35
  fn_part2 (F := F) main_arg12 main_arg13 main_arg14 main_arg15 main_arg16 main_arg17 main_arg18 main_arg19 main_arg20 main_arg21 main_arg23 main_v2 main_v5 main_v10 main_v15 main_v18 main_v21 main_v24 main_v27 main_v30 main_v33 main_v36

def fn {F : FTy → Type} [FloatOps F] (main_arg0 : FVec F S1x2048x64 .f32) (main_arg1 : IVec S128x2 32) (main_arg2 : FVec F S2048x2 .f32) (main_arg3 : FVec F S8x2048 .f32) (main_arg4 : FVec F S8x2048 .f32) (main_arg5 : FVec F S2x64 .f32) (main_arg6 : FVec F S64 .f32) (main_arg7 : FVec F S2x64 .f32) (main_arg8 : FVec F S64 .f32) (main_arg9 : FVec F S128x1024 .f32) (main_arg10 : FVec F S1024 .f32) (main_arg11 : FVec F S1024 .f32) (main_arg12 : FVec F S1024 .f32) (main_arg13 : FVec F S1024x1 .f32) (main_arg14 : FVec F S1 .f32) (main_arg15 : FVec F S1 .f32) (main_arg16 : FVec F S1 .f32) (main_arg17 : FVec F S128x512 .f32) (main_arg18 : FVec F S512 .f32) (main_arg19 : FVec F S512 .f32) (main_arg20 : FVec F S512 .f32) (main_arg21 : FVec F S512x1024 .f32) (main_arg22 : FVec F S1024 .f32) (main_arg23 : FVec F S1024 .f32) (main_arg24 : FVec F S1024 .f32) : IVec S1x2048x64 1 × IVec S2048x2 1 × IVec S2048 1 × IVec S2048 1 × IVec S2x64 1 × IVec S64 1 × IVec S2x64 1 × IVec S64 1 × IVec S128x1024 1 × IVec S1024 1 × IVec S1024 1 × IVec S1024 1 × IVec S1024x1 1 × IVec S1 1 × IVec S1 1 × IVec S1 1 × IVec S128x512 1 × IVec S512 1 × IVec S512 1 × IVec S512 1 × IVec S512x1024 1 × IVec S1024 1 :=
  let main_v0 : FVec F S1x2048x64 .f32 := Host.absf main_arg0
  let main_cst : FVec F S_ .f32 := constant S_ .f32 0x7F800000#32
  let main_v1 : FVec F S1x2048x64 .f32 := broadcastInDim S1x2048x64 ![] bcast_S_S1x2048x64 main_cst
  let main_v2 : IVec S1x2048x64 1 := cmpf .olt main_v0 main_v1
  let main_v3 : FVec F S2048x2 .f32 := Host.absf main_arg2
  let main_cst_0 : FVec F S_ .f32 := constant S_ .f32 0x7F800000#32
  let main_v4 : FVec F S2048x2 .f32 := broadcastInDim S2048x2 ![] bcast_S_S2048x2 main_cst_0
  let main_v5 : IVec S2048x2 1 := cmpf .olt main_v3 main_v4
  let main_v6 : FVec F S1x2048 .f32 := (extractStridedSlice S1x2048 ![7, 0] · slices_S8x2048_S1x2048_7_0) main_arg3
  let main_v7 : FVec F S2048 .f32 := shapeCast S2048 main_v6 shapeCasts_S1x2048_S2048
  let main_v8 : FVec F S2048 .f32 := Host.absf main_v7
  let main_cst_1 : FVec F S_ .f32 := constant S_ .f32 0x7F800000#32
  let main_v9 : FVec F S2048 .f32 := broadcastInDim S2048 ![] bcast_S_S2048 main_cst_1
  let main_v10 : IVec S2048 1 := cmpf .olt main_v8 main_v9
  let main_v11 : FVec F S1x2048 .f32 := (extractStridedSlice S1x2048 ![7, 0] · slices_S8x2048_S1x2048_7_0) main_arg4
  let main_v12 : FVec F S2048 .f32 := shapeCast S2048 main_v11 shapeCasts_S1x2048_S2048
  let main_v13 : FVec F S2048 .f32 := Host.absf main_v12
  let main_cst_2 : FVec F S_ .f32 := constant S_ .f32 0x7F800000#32
  let main_v14 : FVec F S2048 .f32 := broadcastInDim S2048 ![] bcast_S_S2048 main_cst_2
  let main_v15 : IVec S2048 1 := cmpf .olt main_v13 main_v14
  let main_v16 : FVec F S2x64 .f32 := Host.absf main_arg5
  let main_cst_3 : FVec F S_ .f32 := constant S_ .f32 0x7F800000#32
  let main_v17 : FVec F S2x64 .f32 := broadcastInDim S2x64 ![] bcast_S_S2x64 main_cst_3
  let main_v18 : IVec S2x64 1 := cmpf .olt main_v16 main_v17
  fn_part1 (F := F) main_arg6 main_arg7 main_arg8 main_arg9 main_arg10 main_arg11 main_arg12 main_arg13 main_arg14 main_arg15 main_arg16 main_arg17 main_arg18 main_arg19 main_arg20 main_arg21 main_arg23 main_v2 main_v5 main_v10 main_v15 main_v18
-- ==== Kernel.lean ====
abbrev S1x2048x64 : Shape := ⟨3, ![1, 2048, 64]⟩
abbrev S128x2 : Shape := ⟨2, ![128, 2]⟩
abbrev S2048x2 : Shape := ⟨2, ![2048, 2]⟩
abbrev S8x2048 : Shape := ⟨2, ![8, 2048]⟩
abbrev S2x64 : Shape := ⟨2, ![2, 64]⟩
abbrev S64 : Shape := ⟨1, ![64]⟩
abbrev S128x1024 : Shape := ⟨2, ![128, 1024]⟩
abbrev S1024 : Shape := ⟨1, ![1024]⟩
abbrev S1024x1 : Shape := ⟨2, ![1024, 1]⟩
abbrev S1 : Shape := ⟨1, ![1]⟩
abbrev S128x512 : Shape := ⟨2, ![128, 512]⟩
abbrev S512 : Shape := ⟨1, ![512]⟩
abbrev S512x1024 : Shape := ⟨2, ![512, 1024]⟩
abbrev S2048x64 : Shape := ⟨2, ![2048, 64]⟩
abbrev S1x64 : Shape := ⟨2, ![1, 64]⟩
abbrev S1x512 : Shape := ⟨2, ![1, 512]⟩
abbrev S1x1024 : Shape := ⟨2, ![1, 1024]⟩
abbrev S2048x1024 : Shape := ⟨2, ![2048, 1024]⟩
abbrev S1024x2 : Shape := ⟨2, ![1024, 2]⟩
abbrev S1024x64 : Shape := ⟨2, ![1024, 64]⟩
abbrev S1024x1024 : Shape := ⟨2, ![1024, 1024]⟩
abbrev S2x512 : Shape := ⟨2, ![2, 512]⟩
abbrev S64x512 : Shape := ⟨2, ![64, 512]⟩
abbrev S1024x512 : Shape := ⟨2, ![1024, 512]⟩
abbrev S64x16x512 : Shape := ⟨3, ![64, 16, 512]⟩
abbrev S64x1x512 : Shape := ⟨3, ![64, 1, 512]⟩

abbrev nBuf : Space → Nat
  | .hbm => 34
  | .vmem => 21
  | .smem => 0
  | _ => 0

abbrev bufTy : (tb : Table) → Fin (tcTables nBuf tb) → BufTy
  | .hbm, ⟨0, _⟩ => ⟨S1x2048x64, .f32⟩
  | .hbm, ⟨1, _⟩ => ⟨S128x2, .i32⟩
  | .hbm, ⟨2, _⟩ => ⟨S2048x2, .f32⟩
  | .hbm, ⟨3, _⟩ => ⟨S8x2048, .f32⟩
  | .hbm, ⟨4, _⟩ => ⟨S8x2048, .f32⟩
  | .hbm, ⟨5, _⟩ => ⟨S2x64, .f32⟩
  | .hbm, ⟨6, _⟩ => ⟨S64, .f32⟩
  | .hbm, ⟨7, _⟩ => ⟨S2x64, .f32⟩
  | .hbm, ⟨8, _⟩ => ⟨S64, .f32⟩
  | .hbm, ⟨9, _⟩ => ⟨S128x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x1, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S128x512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512x1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S2048x64, .f32⟩
  | .hbm, ⟨26, _⟩ => ⟨S1x64, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S2048x1024, .f32⟩
  | .local _ .vmem, ⟨0, _⟩ => ⟨S1024x2, .f32⟩
  | .local _ .vmem, ⟨1, _⟩ => ⟨S1024x2, .f32⟩
  | .local _ .vmem, ⟨2, _⟩ => ⟨S1024x64, .f32⟩
  | .local _ .vmem, ⟨3, _⟩ => ⟨S1024x64, .f32⟩
  | .local _ .vmem, ⟨4, _⟩ => ⟨S2x64, .f32⟩
  | .local _ .vmem, ⟨5, _⟩ => ⟨S1x64, .f32⟩
  | .local _ .vmem, ⟨6, _⟩ => ⟨S128x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S2x512, .f32⟩
  | .local _ .vmem, ⟨17, _⟩ => ⟨S64x512, .bf16⟩
  | .local _ .vmem, ⟨18, _⟩ => ⟨S1x512, .f32⟩
  | .local _ .vmem, ⟨19, _⟩ => ⟨S512x1024, .bf16⟩
  | .local _ .vmem, ⟨20, _⟩ => ⟨S1x1024, .f32⟩
  | _, _ => ⟨S1x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S1x2048x64 : Shape := ⟨3, ![1, 2048, 64]⟩
abbrev S128x2 : Shape := ⟨2, ![128, 2]⟩
abbrev S2048x2 : Shape := ⟨2, ![2048, 2]⟩
abbrev S8x2048 : Shape := ⟨2, ![8, 2048]⟩
abbrev S2x64 : Shape := ⟨2, ![2, 64]⟩
abbrev S64 : Shape := ⟨1, ![64]⟩
abbrev S128x1024 : Shape := ⟨2, ![128, 1024]⟩
abbrev S1024 : Shape := ⟨1, ![1024]⟩
abbrev S1024x1 : Shape := ⟨2, ![1024, 1]⟩
abbrev S1 : Shape := ⟨1, ![1]⟩
abbrev S128x512 : Shape := ⟨2, ![128, 512]⟩
abbrev S512 : Shape := ⟨1, ![512]⟩
abbrev S512x1024 : Shape := ⟨2, ![512, 1024]⟩
abbrev S2048x64 : Shape := ⟨2, ![2048, 64]⟩
abbrev S128x16x64 : Shape := ⟨3, ![128, 16, 64]⟩
abbrev S128x16x2 : Shape := ⟨3, ![128, 16, 2]⟩
abbrev S128x1x16x2 : Shape := ⟨4, ![128, 1, 16, 2]⟩
abbrev S128x16x1x2 : Shape := ⟨4, ![128, 16, 1, 2]⟩
abbrev S128x16x16x2 : Shape := ⟨4, ![128, 16, 16, 2]⟩
abbrev S128x16x16x64 : Shape := ⟨4, ![128, 16, 16, 64]⟩
abbrev S1x1x1x64 : Shape := ⟨4, ![1, 1, 1, 64]⟩
abbrev S1x2048 : Shape := ⟨2, ![1, 2048]⟩
abbrev S2048 : Shape := ⟨1, ![2048]⟩
abbrev S128x16 : Shape := ⟨2, ![128, 16]⟩
abbrev S128x16x1 : Shape := ⟨3, ![128, 16, 1]⟩
abbrev S128x16x16x128 : Shape := ⟨4, ![128, 16, 16, 128]⟩
abbrev S128x16x16x1024 : Shape := ⟨4, ![128, 16, 16, 1024]⟩
abbrev S1x1x1x1024 : Shape := ⟨4, ![1, 1, 1, 1024]⟩
abbrev S_ : Shape := ⟨0, ![]⟩
abbrev S128x16x16x1 : Shape := ⟨4, ![128, 16, 16, 1]⟩
abbrev S1x1x1x1 : Shape := ⟨4, ![1, 1, 1, 1]⟩
abbrev S128x16x16 : Shape := ⟨3, ![128, 16, 16]⟩
abbrev S128x1x16x64 : Shape := ⟨4, ![128, 1, 16, 64]⟩
abbrev S128x16x16x512 : Shape := ⟨4, ![128, 16, 16, 512]⟩
abbrev S1x1x1x512 : Shape := ⟨4, ![1, 1, 1, 512]⟩
abbrev S128x16x1024 : Shape := ⟨3, ![128, 16, 1024]⟩
abbrev S2048x1024 : Shape := ⟨2, ![2048, 1024]⟩

abbrev nBuf : Space → Nat
  | .hbm => 148
  | .vmem => 0
  | .smem => 0
  | _ => 0

abbrev hbmTy0_0 (i : Nat) : BufTy := match i % 128 with
  | 0 => ⟨S1x2048x64, .f32⟩
  | 1 => ⟨S128x2, .i32⟩
  | 2 => ⟨S2048x2, .f32⟩
  | 3 => ⟨S8x2048, .f32⟩
  | 4 => ⟨S8x2048, .f32⟩
  | 5 => ⟨S2x64, .f32⟩
  | 6 => ⟨S64, .f32⟩
  | 7 => ⟨S2x64, .f32⟩
  | 8 => ⟨S64, .f32⟩
  | 9 => ⟨S128x1024, .f32⟩
  | 10 => ⟨S1024, .f32⟩
  | 11 => ⟨S1024, .f32⟩
  | 12 => ⟨S1024, .f32⟩
  | 13 => ⟨S1024x1, .f32⟩
  | 14 => ⟨S1, .f32⟩
  | 15 => ⟨S1, .f32⟩
  | 16 => ⟨S1, .f32⟩
  | 17 => ⟨S128x512, .f32⟩
  | 18 => ⟨S512, .f32⟩
  | 19 => ⟨S512, .f32⟩
  | 20 => ⟨S512, .f32⟩
  | 21 => ⟨S512x1024, .f32⟩
  | 22 => ⟨S1024, .f32⟩
  | 23 => ⟨S1024, .f32⟩
  | 24 => ⟨S1024, .f32⟩
  | 25 => ⟨S2048x64, .f32⟩
  | 26 => ⟨S128x16x64, .f32⟩
  | 27 => ⟨S128x16x2, .f32⟩
  | 28 => ⟨S128x1x16x2, .f32⟩
  | 29 => ⟨S128x16x1x2, .f32⟩
  | 30 => ⟨S128x16x16x2, .f32⟩
  | 31 => ⟨S128x16x16x2, .f32⟩
  | 32 => ⟨S128x16x16x2, .f32⟩
  | 33 => ⟨S128x16x16x64, .f32⟩
  | 34 => ⟨S1x1x1x64, .f32⟩
  | 35 => ⟨S128x16x16x64, .f32⟩
  | 36 => ⟨S128x16x16x64, .f32⟩
  | 37 => ⟨S1x2048, .f32⟩
  | 38 => ⟨S2048, .f32⟩
  | 39 => ⟨S128x16, .f32⟩
  | 40 => ⟨S1x2048, .f32⟩
  | 41 => ⟨S2048, .f32⟩
  | 42 => ⟨S128x16, .f32⟩
  | 43 => ⟨S128x16x1, .f32⟩
  | 44 => ⟨S128x16x1, .f32⟩
  | 45 => ⟨S128x16x2, .f32⟩
  | 46 => ⟨S128x16x1x2, .f32⟩
  | 47 => ⟨S128x16x16x2, .f32⟩
  | 48 => ⟨S128x16x16x64, .f32⟩
  | 49 => ⟨S1x1x1x64, .f32⟩
  | 50 => ⟨S128x16x16x64, .f32⟩
  | 51 => ⟨S128x16x16x64, .f32⟩
  | 52 => ⟨S128x16x16x128, .f32⟩
  | 53 => ⟨S128x16x16x1024, .f32⟩
  | 54 => ⟨S1x1x1x1024, .f32⟩
  | 55 => ⟨S128x16x16x1024, .f32⟩
  | 56 => ⟨S128x16x16x1024, .f32⟩
  | 57 => ⟨S_, .f32⟩
  | 58 => ⟨S_, .f32⟩
  | 59 => ⟨S_, .f32⟩
  | 60 => ⟨S128x16x16x1024, .f32⟩
  | 61 => ⟨S128x16x16x1024, .f32⟩
  | 62 => ⟨S1x1x1x1024, .f32⟩
  | 63 => ⟨S128x16x16x1024, .f32⟩
  | 64 => ⟨S128x16x16x1024, .f32⟩
  | 65 => ⟨S1x1x1x1024, .f32⟩
  | 66 => ⟨S128x16x16x1024, .f32⟩
  | 67 => ⟨S128x16x16x1024, .f32⟩
  | 68 => ⟨S_, .f32⟩
  | 69 => ⟨S128x16x16x1024, .f32⟩
  | 70 => ⟨S128x16x16x1024, .f32⟩
  | 71 => ⟨S128x16x16x1, .f32⟩
  | 72 => ⟨S1x1x1x1, .f32⟩
  | 73 => ⟨S128x16x16x1, .f32⟩
  | 74 => ⟨S128x16x16x1, .f32⟩
  | 75 => ⟨S_, .f32⟩
  | 76 => ⟨S_, .f32⟩
  | 77 => ⟨S_, .f32⟩
  | 78 => ⟨S128x16x16x1, .f32⟩
  | 79 => ⟨S128x16x16x1, .f32⟩
  | 80 => ⟨S1x1x1x1, .f32⟩
  | 81 => ⟨S128x16x16x1, .f32⟩
  | 82 => ⟨S128x16x16x1, .f32⟩
  | 83 => ⟨S1x1x1x1, .f32⟩
  | 84 => ⟨S128x16x16x1, .f32⟩
  | 85 => ⟨S128x16x16x1, .f32⟩
  | 86 => ⟨S_, .f32⟩
  | 87 => ⟨S128x16x16x1, .f32⟩
  | 88 => ⟨S128x16x16x1, .f32⟩
  | 89 => ⟨S_, .f32⟩
  | 90 => ⟨S128x16x16, .f32⟩
  | 91 => ⟨S_, .f32⟩
  | 92 => ⟨S128x16x16, .f32⟩
  | 93 => ⟨S128x16x16, .f32⟩
  | 94 => ⟨S128x16x16x1, .f32⟩
  | 95 => ⟨S128x16x16x1, .f32⟩
  | 96 => ⟨S128x16x16x1, .f32⟩
  | 97 => ⟨S_, .f32⟩
  | 98 => ⟨S128x16x16, .f32⟩
  | 99 => ⟨S128x16x16x1, .f32⟩
  | 100 => ⟨S128x16x16x1, .f32⟩
  | 101 => ⟨S128x1x16x64, .f32⟩
  | 102 => ⟨S128x16x16x64, .f32⟩
  | 103 => ⟨S128x16x16x128, .f32⟩
  | 104 => ⟨S_, .f32⟩
  | 105 => ⟨S128x16x16x1, .f32⟩
  | 106 => ⟨S128x16x16x1, .f32⟩
  | 107 => ⟨S128x16x16x128, .f32⟩
  | 108 => ⟨S128x16x16x128, .f32⟩
  | 109 => ⟨S128x16x16x512, .f32⟩
  | 110 => ⟨S1x1x1x512, .f32⟩
  | 111 => ⟨S128x16x16x512, .f32⟩
  | 112 => ⟨S128x16x16x512, .f32⟩
  | 113 => ⟨S_, .f32⟩
  | 114 => ⟨S_, .f32⟩
  | 115 => ⟨S_, .f32⟩
  | 116 => ⟨S128x16x16x512, .f32⟩
  | 117 => ⟨S128x16x16x512, .f32⟩
  | 118 => ⟨S1x1x1x512, .f32⟩
  | 119 => ⟨S128x16x16x512, .f32⟩
  | 120 => ⟨S128x16x16x512, .f32⟩
  | 121 => ⟨S1x1x1x512, .f32⟩
  | 122 => ⟨S128x16x16x512, .f32⟩
  | 123 => ⟨S128x16x16x512, .f32⟩
  | 124 => ⟨S_, .f32⟩
  | 125 => ⟨S128x16x16x512, .f32⟩
  | 126 => ⟨S128x16x16x512, .f32⟩
  | 127 => ⟨S128x16x16x1024, .f32⟩
  | _ => ⟨S1x2048x64, .f32⟩

abbrev hbmTy0_1 (i : Nat) : BufTy := match i % 128 with
  | 0 => ⟨S1x1x1x1024, .f32⟩
  | 1 => ⟨S128x16x16x1024, .f32⟩
  | 2 => ⟨S128x16x16x1024, .f32⟩
  | 3 => ⟨S_, .f32⟩
  | 4 => ⟨S_, .f32⟩
  | 5 => ⟨S_, .f32⟩
  | 6 => ⟨S128x16x16x1024, .f32⟩
  | 7 => ⟨S128x16x16x1024, .f32⟩
  | 8 => ⟨S1x1x1x1024, .f32⟩
  | 9 => ⟨S128x16x16x1024, .f32⟩
  | 10 => ⟨S128x16x16x1024, .f32⟩
  | 11 => ⟨S1x1x1x1024, .f32⟩
  | 12 => ⟨S128x16x16x1024, .f32⟩
  | 13 => ⟨S128x16x16x1024, .f32⟩
  | 14 => ⟨S_, .f32⟩
  | 15 => ⟨S128x16x16x1024, .f32⟩
  | 16 => ⟨S128x16x16x1024, .f32⟩
  | 17 => ⟨S_, .f32⟩
  | 18 => ⟨S128x16x1024, .f32⟩
  | 19 => ⟨S2048x1024, .f32⟩
  | _ => ⟨S1x2048x64, .f32⟩

abbrev hbmTy (i : Nat) : BufTy := match i / 128 with
  | 0 => hbmTy0_0 i
  | 1 => hbmTy0_1 i
  | _ => ⟨S1x2048x64, .f32⟩

abbrev bufTy : (tb : Table) → Fin (tcTables nBuf tb) → BufTy
  | .hbm, ⟨i, _⟩ => hbmTy i
  | _, _ => ⟨S1x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call0_cst : Ref sig .tc := ⟨.hbm, 68, rfl⟩
abbrev main_call0_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call1_cst : Ref sig .tc := ⟨.hbm, 86, rfl⟩
abbrev main_call1_v0 : Ref sig .tc := ⟨.hbm, 87, rfl⟩
abbrev main_v57 : Ref sig .tc := ⟨.hbm, 88, rfl⟩
abbrev main_cst_1 : Ref sig .tc := ⟨.hbm, 89, rfl⟩
abbrev main_v58 : Ref sig .tc := ⟨.hbm, 90, rfl⟩
abbrev main_cst_2 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_3 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_4 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_5 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call2_cst : Ref sig .tc := ⟨.hbm, 124, rfl⟩
abbrev main_call2_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_6 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call3_cst : Ref sig .tc := ⟨.hbm, 142, rfl⟩
abbrev main_call3_v0 : Ref sig .tc := ⟨.hbm, 143, rfl⟩
abbrev main_v103 : Ref sig .tc := ⟨.hbm, 144, rfl⟩
abbrev main_cst_7 : Ref sig .tc := ⟨.hbm, 145, rfl⟩
abbrev main_v104 : Ref sig .tc := ⟨.hbm, 146, rfl⟩
abbrev main_v105 : Ref sig .tc := ⟨.hbm, 147, rfl⟩

abbrev nD : Nat := 1
abbrev τ : Topo := Topo.v7x

variable {F : FTy → Type} [FloatOps F]
-- ==== Proof.Layers.lean ====
module

public import Idealize.ShloMosaic.Lib.Pointwise
public import Mathlib.Tactic.FieldSimp
public import Mathlib.Tactic.Ring
public import Mathlib.Tactic.NormNum
public import Mathlib.Tactic.Positivity

/-!
# The two layers, over the extended reals

Facts about numbers alone. Both programs compute, for a pair `(i, j)`, a hidden row and then an output row; the kernel folds
the normalisations into its weights and splits the hidden row into a part of `j` and a part of `i`. Wherever the numbers
involved are real, the two orders of computation agree.
-/

@[expose] public section

noncomputable section

namespace Pooling

open Idealize.ShloMosaic

/-- The divisor of every normalisation. -/
def spread : EReal := Ideal.sqrt (Ideal.ofBits .f32 0x3F800054#32)

/-- The weight every attention coefficient is scaled by. -/
def scale : EReal := Ideal.ofBits .f32 0x3D4CCCCD#32

/-- A number that is neither infinity. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) {f : ι → EReal} (h : ∀ i, IsReal (f i)) : IsReal (∑ i ∈ s, f i) :=
  Finset.sum_induction f IsReal (fun _ _ => IsReal.add) IsReal.zero fun i _ => h i

/-- A number whose absolute value is below infinity is real. -/
theorem isReal_of_abs_lt {x : EReal} (h : max x (-x) < ⊤) : IsReal x := by
  induction x with
  | bot => simp at h
  | coe r => exact ⟨r, rfl⟩
  | top => simp at h

/-- A sum of reals is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals is the same in the extended reals. -/
theorem coe_max (a b : ℝ) : ((max a b : ℝ) : EReal) = max (a : EReal) b :=
  EReal.coe_strictMono.monotone.map_max

/-- The constant every maximum starts from is the least number. -/
theorem start_eq : Ideal.ofBits .f32 0xFF800000#32 = ⊥ := by
  simp [Ideal.ofBits, Ideal.ieee]

/-- The bound of the precondition is the largest number. -/
theorem bound_eq : Ideal.ofBits .f32 0x7F800000#32 = ⊤ := by
  simp [Ideal.ofBits, Ideal.ieee]

/-- The divisor is a positive real. -/
theorem spread_real : ∃ σ : ℝ, 0 < σ ∧ spread = (σ : EReal) := by
  have h : ∃ v : ℝ, 0 < v ∧ Ideal.ofBits .f32 0x3F800054#32 = (v : EReal) := by
    refine ⟨_, ?_, by simp [Ideal.ofBits, Ideal.ieee]; rfl⟩
    positivity
  obtain ⟨v, hv, e⟩ := h
  refine ⟨Real.sqrt v, Real.sqrt_pos.2 hv, ?_⟩
  rw [spread, e, Ideal.sqrt_coe, if_neg (not_lt.2 hv.le)]

/-- The attention weight is a real. -/
theorem scale_real : IsReal scale := by
  refine ⟨_, by simp [scale, Ideal.ofBits, Ideal.ieee]; rfl⟩

/-- A real over the divisor is a real. -/
theorem IsReal.div_spread {x : EReal} (hx : IsReal x) : IsReal (Ideal.div x spread) := by
  obtain ⟨σ, hσ, e⟩ := spread_real
  rw [e, Ideal.div_coe hσ.ne']
  exact hx.mul (IsReal.coe _)

/-- The normalised exponential of a single real score is one. -/
theorem softmax_one {x : EReal} (hx : IsReal x) : Ideal.div (Ideal.exp (x - x)) (Ideal.exp (x - x)) = 1 := by
  obtain ⟨r, rfl⟩ := hx
  rw [← EReal.coe_sub, sub_self, Ideal.exp_coe, Real.exp_zero, Ideal.div_coe one_ne_zero]
  simp

/-- The hidden entry of a pair as the reference computes it: embed the relative position, weight it and the hidden state
    of `j` by the attention coefficient `a`, apply the layer, normalise. `U` and `V` are the two halves of the layer's weights. -/
def refHidden (a : EReal) (pi pj : Fin 2 → EReal) (h : Fin 64 → EReal) (s : Fin 2 → Fin 64 → EReal)
    (bs U V : Fin 64 → EReal) (b g t : EReal) : EReal :=
  max (Ideal.div (∑ x, (∑ d, (pj d - pi d) * s d x + bs x) * (scale * a) * U x + ∑ x, h x * (scale * a) * V x + b)
    spread * g + t) 0

/-- A position's share of the hidden entry, in the kernel's folded weights. -/
def posPart (p : Fin 2 → EReal) (s : Fin 2 → Fin 64 → EReal) (U : Fin 64 → EReal) (g : EReal) : EReal :=
  p 0 * (scale * ∑ x, s 0 x * (U x * (g * Ideal.div 1 spread)))
    + p 1 * (scale * ∑ x, s 1 x * (U x * (g * Ideal.div 1 spread)))

/-- The hidden entry of a pair as the kernel computes it: the part of `j` less the part of `i`. -/
def kerHidden (pi pj : Fin 2 → EReal) (h : Fin 64 → EReal) (s : Fin 2 → Fin 64 → EReal)
    (bs U V : Fin 64 → EReal) (b g t : EReal) : EReal :=
  max ((posPart pj s U g + ∑ x, h x * (scale * (V x * (g * Ideal.div 1 spread)))
      + (scale * ∑ x, bs x * (U x * (g * Ideal.div 1 spread)) + b * (g * Ideal.div 1 spread) + t))
    - posPart pi s U g) 0

/-- The same equation between real numbers. -/
theorem hidden_reals (l σ : ℝ) (pi pj : Fin 2 → ℝ) (h : Fin 64 → ℝ) (s : Fin 2 → Fin 64 → ℝ)
    (bs U V : Fin 64 → ℝ) (b g t : ℝ) :
    ((pj 0 * (l * ∑ x, s 0 x * (U x * (g * (1 * (1 / σ))))) + pj 1 * (l * ∑ x, s 1 x * (U x * (g * (1 * (1 / σ)))))
        + ∑ x, h x * (l * (V x * (g * (1 * (1 / σ)))))
        + (l * ∑ x, bs x * (U x * (g * (1 * (1 / σ)))) + b * (g * (1 * (1 / σ))) + t))
      - (pi 0 * (l * ∑ x, s 0 x * (U x * (g * (1 * (1 / σ))))) + pi 1 * (l * ∑ x, s 1 x * (U x * (g * (1 * (1 / σ)))))))
    = (∑ x, (∑ d, (pj d - pi d) * s d x + bs x) * (l * 1) * U x + ∑ x, h x * (l * 1) * V x + b) * (1 / σ) * g + t := by
  have e : ∀ x, (∑ d, (pj d - pi d) * s d x + bs x) * (l * 1) * U x
      = (pj 0 - pi 0) * l * (s 0 x * U x) + (pj 1 - pi 1) * l * (s 1 x * U x) + l * (bs x * U x) := by
    intro x
    rw [Fin.sum_univ_two]
    ring
  have e1 : ∀ (f : Fin 64 → ℝ), ∑ x, f x * (U x * (g * (1 * (1 / σ)))) = (∑ x, f x * U x) * (g * (1 / σ)) := by
    intro f
    rw [Finset.sum_mul]
    exact Finset.sum_congr rfl fun x _ => by ring
  have e2 : ∑ x, h x * (l * (V x * (g * (1 * (1 / σ))))) = (∑ x, h x * (l * 1) * V x) * (g * (1 / σ)) := by
    rw [Finset.sum_mul]
    exact Finset.sum_congr rfl fun x _ => by ring
  rw [Finset.sum_congr rfl fun x _ => e x, Finset.sum_add_distrib, Finset.sum_add_distrib, ← Finset.mul_sum,
    ← Finset.mul_sum, ← Finset.mul_sum, e1, e1, e1, e2]
  ring

/-- On real arguments and with an attention coefficient of one, the two hidden entries agree. -/
theorem hidden_eq (pi pj : Fin 2 → EReal) (h : Fin 64 → EReal) (s : Fin 2 → Fin 64 → EReal)
    (bs U V : Fin 64 → EReal) (b g t : EReal) (hpi : ∀ d, IsReal (pi d)) (hpj : ∀ d, IsReal (pj d))
    (hh : ∀ x, IsReal (h x)) (hs : ∀ d x, IsReal (s d x)) (hbs : ∀ x, IsReal (bs x)) (hU : ∀ x, IsReal (U x))
    (hV : ∀ x, IsReal (V x)) (hb : IsReal b) (hg : IsReal g) (ht : IsReal t) :
    kerHidden pi pj h s bs U V b g t = refHidden 1 pi pj h s bs U V b g t := by
  obtain ⟨σ, hσ, eσ⟩ := spread_real
  obtain ⟨l, el⟩ := scale_real
  choose pi' hpi using hpi
  choose pj' hpj using hpj
  choose h' hh using hh
  choose s' hs using hs
  choose bs' hbs using hbs
  choose U' hU using hU
  choose V' hV using hV
  obtain ⟨b, rfl⟩ := hb
  obtain ⟨g, rfl⟩ := hg
  obtain ⟨t, rfl⟩ := ht
  unfold kerHidden refHidden posPart
  congr 1
  simp only [eσ, el, Ideal.div_coe hσ.ne', hpi, hpj, hh, hs, hbs, hU, hV]
  have key := congrArg (fun r : ℝ => (r : EReal)) (hidden_reals l σ pi' pj' h' s' bs' U' V' b g t)
  simpa only [EReal.coe_add, EReal.coe_sub, EReal.coe_mul, coe_sum, EReal.coe_one] using key

/-- On real arguments the reference's hidden entry is real. -/
theorem refHidden_real (a : EReal) (pi pj : Fin 2 → EReal) (h : Fin 64 → EReal) (s : Fin 2 → Fin 64 → EReal)
    (bs U V : Fin 64 → EReal) (b g t : EReal) (ha : IsReal a) (hpi : ∀ d, IsReal (pi d)) (hpj : ∀ d, IsReal (pj d))
    (hh : ∀ x, IsReal (h x)) (hs : ∀ d x, IsReal (s d x)) (hbs : ∀ x, IsReal (bs x)) (hU : ∀ x, IsReal (U x))
    (hV : ∀ x, IsReal (V x)) (hb : IsReal b) (hg : IsReal g) (ht : IsReal t) :
    IsReal (refHidden a pi pj h s bs U V b g t) :=
  IsReal.max ((((((IsReal.sum _ fun x =>
      (((IsReal.sum _ fun d => ((hpj d).sub (hpi d)).mul (hs d x)).add (hbs x)).mul (scale_real.mul ha)).mul (hU x)).add
    (IsReal.sum _ fun x => ((hh x).mul (scale_real.mul ha)).mul (hV x))).add hb).div_spread).mul hg).add ht) IsReal.zero

/-- A real factor distributes over the sum of a real and any number. -/
theorem add_mul_real (z r : ℝ) (y : EReal) : ((z : EReal) + y) * r = z * r + y * r := by
  induction y with
  | coe y => simp only [← EReal.coe_add, ← EReal.coe_mul, add_mul]
  | bot =>
    rcases lt_trichotomy r 0 with h | rfl | h
    · rw [EReal.add_bot, EReal.bot_mul_coe_of_neg h, ← EReal.coe_mul, EReal.coe_add_top]
    · simp
    · rw [EReal.add_bot, EReal.bot_mul_coe_of_pos h, EReal.add_bot]
  | top =>
    rcases lt_trichotomy r 0 with h | rfl | h
    · rw [EReal.coe_add_top, EReal.top_mul_coe_of_neg h, EReal.add_bot]
    · simp
    · rw [EReal.coe_add_top, EReal.top_mul_coe_of_pos h, ← EReal.coe_mul, EReal.coe_add_top]

/-- The output layer at one pair: normalising after the product is the product with the normalised weights, whatever the
    biases `B` and `T` are. -/
theorem layer_eq (x w : Fin 512 → EReal) (g B T : EReal) (hx : ∀ k, IsReal (x k)) (hw : ∀ k, IsReal (w k))
    (hg : IsReal g) :
    Ideal.div (∑ k, x k * w k + B) spread * g + T
      = ∑ k, x k * (w k * (g * Ideal.div 1 spread)) + (B * (g * Ideal.div 1 spread) + T) := by
  obtain ⟨σ, hσ, eσ⟩ := spread_real
  choose x' hx using hx
  choose w' hw using hw
  obtain ⟨g, rfl⟩ := hg
  have e : ∑ k, x' k * (w' k * (g * (1 * (1 / σ)))) = (∑ k, x' k * w' k) * (g * (1 * (1 / σ))) := by
    rw [Finset.sum_mul]
    exact Finset.sum_congr rfl fun k _ => by ring
  have e' := congrArg (fun r : ℝ => (r : EReal)) e
  simp only [EReal.coe_mul, coe_sum, EReal.coe_one] at e'
  simp only [eσ, Ideal.div_coe hσ.ne', hx, hw]
  rw [e', ← add_assoc]
  refine congrArg (· + T) ?_
  have hz : ∑ k, (x' k : EReal) * (w' k : EReal) = ((∑ k, x' k * w' k : ℝ) : EReal) := by
    simp only [coe_sum, EReal.coe_mul]
  have hr : (g : EReal) * (1 * ((1 / σ : ℝ) : EReal)) = ((1 / σ * g : ℝ) : EReal) := by
    rw [one_mul, mul_comm, EReal.coe_mul]
  rw [hz, hr, mul_assoc, ← EReal.coe_mul, add_mul_real]

/-- The largest of several numbers, each raised by `C` and cut off at zero, is the largest of them so treated. -/
theorem sup_layer {n : ℕ} (f : Fin (n + 1) → EReal) (C : EReal) :
    (Finset.univ.sup fun j => max (f j + C) 0) = max (Finset.univ.sup f + C) 0 := by
  apply le_antisymm
  · refine Finset.sup_le fun j hj => ?_
    gcongr
    exact Finset.le_sup hj
  · obtain ⟨j, hj, e⟩ := Finset.exists_mem_eq_sup Finset.univ Finset.univ_nonempty f
    rw [e]
    exact Finset.le_sup (f := fun j => max (f j + C) 0) hj

/-- A running maximum over sixteen numbers, one after another, is the largest of them. -/
theorem sup_sixteen (f : Fin 16 → EReal) :
    max (max (max (max (max (max (max (max (max (max (max (max (max (max (max
      (f 0) (f 1)) (f 2)) (f 3)) (f 4)) (f 5)) (f 6)) (f 7)) (f 8)) (f 9)) (f 10)) (f 11)) (f 12)) (f 13)) (f 14)) (f 15)
      = Finset.univ.sup f := by
  apply le_antisymm
  · simp only [max_le_iff]
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;>
      exact Finset.le_sup (Finset.mem_univ _)
  · refine Finset.sup_le fun j _ => ?_
    fin_cases j <;> simp

end Pooling

end
-- ==== Proof.BlockValue.lean ====
module

public import proofs.«01_k».proof.Proof.Gen.KernelIdeal.Skeleton
public import proofs.«01_k».proof.Proof.Layers

/-!
# What one block of the kernel computes

One grid point takes a block of positions and hidden states and five tables of folded weights, and leaves one block of the
result. The theorems here say what the tables and the block hold at an index, in the terms of `Layers.lean`.
-/

@[expose] public section

set_option maxRecDepth 16384

noncomputable section

namespace Cert.KernelIdeal.Block

open Cert.KernelIdeal Cert.KernelIdeal.Gen Idealize.ShloMosaic Pooling

/-- The row of `j`'s part minus the row of `i`'s part, cut off at zero and multiplied with the output weights: the entry that
    neighbour `j` contributes to row `r`, column `n`. -/
def contribution (u v : FVec Ideal S64x16x512 .bf16) (w : FVec Ideal S512x1024 .bf16) (r n : Fin 1024) (j : Fin 16) : EReal :=
  ∑ k : Fin 512, max (u (ix3 (⟨r.val / 16, by omega⟩ : Fin 64) j k)
    - v (ix3 (⟨r.val / 16, by omega⟩ : Fin 64) (⟨r.val % 16, by omega⟩ : Fin 16) k)) 0 * w (ix2 k n)

/-- The block a grid point leaves, from its positions, its hidden states and the five tables. -/
def block (pos : Vec Ideal S1024x2 .f32) (h : Vec Ideal S1024x64 .f32) (A : Vec Ideal S2x512 .f32)
    (Df : Vec Ideal S64x512 .bf16) (c : Vec Ideal S1x512 .f32) (w : Vec Ideal S512x1024 .bf16)
    (b : Vec Ideal S1x1024 .f32) : FVec Ideal S1024x1024 .f32 :=
  k0_pay1 (k0_pay13 pos h A Df c) (k0_pay14 pos A) w
    (k0_pay19 (k0_pay13 pos h A Df c) (k0_pay14 pos A) w
      (k0_pay17 (k0_pay13 pos h A Df c) (k0_pay14 pos A) w (k0_pay15 pos h A Df c w) (k0_pay16 pos h A Df c)
        (FloatOps.ofBits .bf16 0x0000#16))
      (k0_pay18 (k0_pay13 pos h A Df c) (k0_pay14 pos A)) (FloatOps.ofBits .bf16 0x0000#16))
    (k0_pay20 (k0_pay13 pos h A Df c) (k0_pay14 pos A)) (FloatOps.ofBits .bf16 0x0000#16) b

/-- The block at an index: the largest contribution over the sixteen neighbours, the bias, the cut at zero. -/
theorem block_apply (pos : Vec Ideal S1024x2 .f32) (h : Vec Ideal S1024x64 .f32) (A : Vec Ideal S2x512 .f32)
    (Df : Vec Ideal S64x512 .bf16) (c : Vec Ideal S1x512 .f32) (w : Vec Ideal S512x1024 .bf16)
    (b : Vec Ideal S1x1024 .f32) (r n : Fin 1024) :
    block pos h A Df c w b (ix2 r n)
      = max (Finset.univ.sup (contribution (k0_pay13 pos h A Df c) (k0_pay14 pos A) w r n) + b (ix2 0 n)) 0 := by
  unfold block k0_pay15 k0_pay16 k0_pay18 k0_pay20
  generalize k0_pay13 pos h A Df c = u
  generalize k0_pay14 pos A = v
  pointwise [k0_pay1, k0_pay19, k0_pay17]
  rw [← sup_sixteen]
  rfl

/-- The part of neighbour `j`, at a hidden column. -/
theorem part_j (pos : Vec Ideal S1024x2 .f32) (h : Vec Ideal S1024x64 .f32) (A : Vec Ideal S2x512 .f32)
    (Df : Vec Ideal S64x512 .bf16) (c : Vec Ideal S1x512 .f32) (a : Fin 64) (j : Fin 16) (k : Fin 512) :
    k0_pay13 pos h A Df c (ix3 a j k)
      = pos (ix2 ⟨a.val * 16 + j.val, by omega⟩ 0) * A (ix2 0 k) + pos (ix2 ⟨a.val * 16 + j.val, by omega⟩ 1) * A (ix2 1 k)
        + ∑ x, h (ix2 ⟨a.val * 16 + j.val, by omega⟩ x) * Df (ix2 x k) + c (ix2 0 k) := by
  pointwise [k0_pay13, k0_pay12]

/-- The part of `i`, at a hidden column. -/
theorem part_i (pos : Vec Ideal S1024x2 .f32) (A : Vec Ideal S2x512 .f32) (a : Fin 64) (i : Fin 16) (k : Fin 512) :
    k0_pay14 pos A (ix3 a i k)
      = pos (ix2 ⟨a.val * 16 + i.val, by omega⟩ 0) * A (ix2 0 k)
        + pos (ix2 ⟨a.val * 16 + i.val, by omega⟩ 1) * A (ix2 1 k) := by
  pointwise [k0_pay14, k0_pay12]

/-- The table applied to positions. -/
theorem table_pos (g : Vec Ideal S1x512 .f32) (U : Vec Ideal S64x512 .f32) (s : Vec Ideal S2x64 .f32) (d : Fin 2) (k : Fin 512) :
    k0_pay5 g U s (ix2 d k) = scale * ∑ x, s (ix2 d x) * (U (ix2 x k) * (g (ix2 0 k) * Ideal.div 1 spread)) := by
  pointwise [k0_pay5, k0_pay4, k0_pay3, k0_pay2]
  rfl

/-- The table applied to hidden states. -/
theorem table_hid (g : Vec Ideal S1x512 .f32) (V : Vec Ideal S64x512 .f32) (x : Fin 64) (k : Fin 512) :
    k0_pay6 g V (ix2 x k) = scale * (V (ix2 x k) * (g (ix2 0 k) * Ideal.div 1 spread)) := by
  pointwise [k0_pay6, k0_pay3, k0_pay2]
  rfl

/-- The row every pair adds to its hidden row. -/
theorem table_row (g : Vec Ideal S1x512 .f32) (U : Vec Ideal S64x512 .f32) (bs : Vec Ideal S1x64 .f32)
    (b t : Vec Ideal S1x512 .f32) (k : Fin 512) :
    k0_pay8 (k0_pay7 g U bs b) t (ix2 0 k)
      = scale * ∑ x, bs (ix2 0 x) * (U (ix2 x k) * (g (ix2 0 k) * Ideal.div 1 spread))
        + b (ix2 0 k) * (g (ix2 0 k) * Ideal.div 1 spread) + t (ix2 0 k) := by
  pointwise [k0_pay8, k0_pay7, k0_pay4, k0_pay3, k0_pay2]
  rfl

/-- The output weights. -/
theorem table_out (g : Vec Ideal S1x1024 .f32) (W : Vec Ideal S512x1024 .f32) (k : Fin 512) (n : Fin 1024) :
    k0_pay10 k0_pay2 g W (ix2 k n) = W (ix2 k n) * (g (ix2 0 n) * Ideal.div 1 spread) := by
  pointwise [k0_pay10, k0_pay9, k0_pay2]
  rfl

/-- The output bias. -/
theorem table_bias (g b t : Vec Ideal S1x1024 .f32) (n : Fin 1024) :
    k0_pay11 k0_pay2 g b t (ix2 0 n) = b (ix2 0 n) * (g (ix2 0 n) * Ideal.div 1 spread) + t (ix2 0 n) := by
  pointwise [k0_pay11, k0_pay9, k0_pay2]
  rfl

/-- The block at an index with the tables written out: for every neighbour the kernel's hidden row, multiplied with the
    normalised output weights; the largest over the neighbours, the bias, the cut at zero. -/
theorem block_tables (pos : Vec Ideal S1024x2 .f32) (h : Vec Ideal S1024x64 .f32) (s : Vec Ideal S2x64 .f32)
    (bs : Vec Ideal S1x64 .f32) (U V : Vec Ideal S64x512 .f32) (b g t : Vec Ideal S1x512 .f32)
    (W : Vec Ideal S512x1024 .f32) (B G T : Vec Ideal S1x1024 .f32) (r n : Fin 1024) :
    block pos h (k0_pay5 g U s) (k0_pay6 g V) (k0_pay8 (k0_pay7 g U bs b) t) (k0_pay10 k0_pay2 G W)
        (k0_pay11 k0_pay2 G B T) (ix2 r n)
      = max (Finset.univ.sup (fun j : Fin 16 => ∑ k : Fin 512,
            kerHidden (fun d => pos (ix2 r d)) (fun d => pos (ix2 ⟨r.val / 16 * 16 + j.val, by omega⟩ d))
                (fun x => h (ix2 ⟨r.val / 16 * 16 + j.val, by omega⟩ x)) (fun d x => s (ix2 d x)) (fun x => bs (ix2 0 x))
                (fun x => U (ix2 x k)) (fun x => V (ix2 x k)) (b (ix2 0 k)) (g (ix2 0 k)) (t (ix2 0 k))
              * (W (ix2 k n) * (G (ix2 0 n) * Ideal.div 1 spread)))
          + (B (ix2 0 n) * (G (ix2 0 n) * Ideal.div 1 spread) + T (ix2 0 n))) 0 := by
  have hr : (⟨r.val / 16 * 16 + r.val % 16, by omega⟩ : Fin 1024) = r := Fin.ext (by dsimp only; omega)
  rw [block_apply, table_bias]
  refine congrArg (fun z => max (z + _) 0) (Finset.sup_congr rfl fun j _ => Finset.sum_congr rfl fun k _ => ?_)
  simp only [part_j, part_i, table_pos, table_hid, table_row, table_out, hr]
  rfl

end Cert.KernelIdeal.Block

end
-- ==== Proof.BlockRun.lean ====
module

public import proofs.«01_k».proof.Proof.Gen.KernelIdeal.Value
public import proofs.«01_k».proof.Proof.BlockValue
public import Idealize.ShloMosaic.Lib.Pipeline.ValueKit
public import Idealize.ShloMosaic.Lib.Pipeline.ReadBack

/-!
# What the two grid points leave

The first point prepares the five tables in scratch and the second finds them there. So both leave the same function of
their own blocks and of those tables.
-/

@[expose] public section

set_option maxRecDepth 16384

noncomputable section

namespace Cert.KernelIdeal.Block

open Cert.KernelIdeal Cert.KernelIdeal.Gen Idealize.ShloMosaic Idealize.ShloMosaic.TcCoe

variable (m : (ℓ : Loc nD τ sig) → Buf (Elt Ideal) ℓ) (c : Dev nD)

/-- The upper half of the first layer's weights: what multiplies the pair's embedding. -/
def upper (t : Fin cfg0.N) : Vec Ideal S64x512 .f32 :=
  View.ld (iblk m c 4 t) (Rect.unit ![0, 0] ![64, 512] inb_S128x512_S64x512_0_0)

/-- The lower half: what multiplies the hidden state. -/
def lower (t : Fin cfg0.N) : Vec Ideal S64x512 .f32 :=
  View.ld (iblk m c 4 t) (Rect.unit ![64, 0] ![64, 512] inb_S128x512_S64x512_64_0)

/-- The five tables prepared from the blocks of a point. -/
def tables (t : Fin cfg0.N) : Vec Ideal S2x512 .f32 × Vec Ideal S64x512 .bf16 × Vec Ideal S1x512 .f32
    × Vec Ideal S512x1024 .bf16 × Vec Ideal S1x1024 .f32 :=
  (k0_pay5 (iblk m c 6 t) (upper m c t) (iblk m c 2 t),
    k0_pay6 (iblk m c 6 t) (lower m c t),
    k0_pay8 (k0_pay7 (iblk m c 6 t) (upper m c t) (iblk m c 3 t) (iblk m c 5 t)) (iblk m c 7 t),
    k0_pay10 k0_pay2 (iblk m c 10 t) (iblk m c 8 t),
    k0_pay11 k0_pay2 (iblk m c 10 t) (iblk m c 9 t) (iblk m c 11 t))

/-- The first point leaves the tables in scratch. -/
theorem scratch_first (t : Fin cfg0.N) (h : t.val % 2 = 0) : (outsAt0 m c t.val t.isLt).2 = tables m c t := by
  rw [outsAt0_A m c t h]
  dsimp only
  frame_out
  rfl

/-- The second point leaves the scratch as it found it. -/
theorem scratch_second (t : Fin cfg0.N) (h : ¬ t.val % 2 = 0) :
    (outsAt0 m c t.val t.isLt).2 = (outsAt0 m c (t.val - 1) (Nat.lt_of_le_of_lt (Nat.sub_le _ _) t.isLt)).2 := by
  rw [outsAt0_B m c t h]
  rfl

/-- After either point the scratch holds the tables of the first. -/
theorem scratch_eq (t : Fin cfg0.N) : (outsAt0 m c t.val t.isLt).2 = tables m c t0_0 := by
  rcases fin_N0 t with rfl | rfl
  · exact scratch_first m c t0_0 rfl
  · exact (scratch_second m c t0_1 (by decide)).trans (scratch_first m c t0_0 rfl)

/-- The first point's block of the result. -/
theorem out_first (t : Fin cfg0.N) (h : t.val % 2 = 0) :
    (outsAt0 m c t.val t.isLt).1 = block (iblk m c 0 t) (iblk m c 1 t) (tables m c t).1 (tables m c t).2.1
      (tables m c t).2.2.1 (tables m c t).2.2.2.1 (tables m c t).2.2.2.2 := by
  rw [outsAt0_A m c t h]
  dsimp only
  frame_out
  rfl

/-- The second point's block of the result, over what the first left in scratch. -/
theorem out_second (t : Fin cfg0.N) (h : ¬ t.val % 2 = 0)
    (T : Vec Ideal S2x512 .f32 × Vec Ideal S64x512 .bf16 × Vec Ideal S1x512 .f32
      × Vec Ideal S512x1024 .bf16 × Vec Ideal S1x1024 .f32)
    (hT : (outsAt0 m c (t.val - 1) (Nat.lt_of_le_of_lt (Nat.sub_le _ _) t.isLt)).2 = T) :
    (outsAt0 m c t.val t.isLt).1 = block (iblk m c 0 t) (iblk m c 1 t) T.1 T.2.1 T.2.2.1 T.2.2.2.1 T.2.2.2.2 := by
  subst hT
  rw [outsAt0_B m c t h]
  dsimp only
  frame_out
  simp only [read_unread_whole]
  rfl

/-- Either point's block of the result. -/
theorem out_eq (t : Fin cfg0.N) :
    (outsAt0 m c t.val t.isLt).1 = block (iblk m c 0 t) (iblk m c 1 t) (tables m c t0_0).1 (tables m c t0_0).2.1
      (tables m c t0_0).2.2.1 (tables m c t0_0).2.2.2.1 (tables m c t0_0).2.2.2.2 := by
  rcases fin_N0 t with rfl | rfl
  · exact out_first m c t0_0 rfl
  · exact out_second m c t0_1 (by decide) _ (scratch_eq m c t0_0)

end Cert.KernelIdeal.Block

end
-- ==== Proof.Equation.lean ====
module

public import proofs.«01_k».proof.Proof.Layers

/-!
# The equation

The result as the kernel computes it and the result as the reference computes it, both as formulas in the arguments that
enter them, and their equality where those arguments are real. The two biases added last, `b2` and `t2`, may be anything.
-/

@[expose] public section

noncomputable section

namespace Pooling

open Idealize.ShloMosaic

/-- The arguments that reach the result, as functions of their indices. -/
structure Args where
  /-- positions -/
  pos : Fin 2048 → Fin 2 → EReal
  /-- hidden states -/
  hid : Fin 2048 → Fin 64 → EReal
  /-- weights of the pair embedding -/
  ws : Fin 2 → Fin 64 → EReal
  /-- bias of the pair embedding -/
  bs : Fin 64 → EReal
  /-- weights of the first layer -/
  w1 : Fin 128 → Fin 512 → EReal
  /-- bias of the first layer -/
  b1 : Fin 512 → EReal
  /-- gain of the first layer -/
  g1 : Fin 512 → EReal
  /-- shift of the first layer -/
  t1 : Fin 512 → EReal
  /-- weights of the second layer -/
  w2 : Fin 512 → Fin 1024 → EReal
  /-- bias of the second layer -/
  b2 : Fin 1024 → EReal
  /-- gain of the second layer -/
  g2 : Fin 1024 → EReal
  /-- shift of the second layer -/
  t2 : Fin 1024 → EReal

namespace Args

/-- Neighbour `j` of row `r`: the `j`-th of the sixteen rows of `r`'s sequence. -/
def peer (r : Fin 2048) (j : Fin 16) : Fin 2048 := ⟨r.val / 16 * 16 + j.val, by omega⟩

/-- The kernel's hidden entry for row `r` and neighbour `j`. -/
def kerRow (A : Args) (r : Fin 2048) (j : Fin 16) (k : Fin 512) : EReal :=
  kerHidden (A.pos r) (A.pos (peer r j)) (A.hid (peer r j)) A.ws A.bs (fun x => A.w1 ⟨x.val, by omega⟩ k)
    (fun x => A.w1 ⟨64 + x.val, by omega⟩ k) (A.b1 k) (A.g1 k) (A.t1 k)

/-- The reference's hidden entry for row `r` and neighbour `j`, the attention coefficient being one. -/
def refRow (A : Args) (r : Fin 2048) (j : Fin 16) (k : Fin 512) : EReal :=
  refHidden 1 (A.pos r) (A.pos (peer r j)) (A.hid (peer r j)) A.ws A.bs (fun x => A.w1 ⟨x.val, by omega⟩ k)
    (fun x => A.w1 ⟨64 + x.val, by omega⟩ k) (A.b1 k) (A.g1 k) (A.t1 k)

/-- The kernel's result: normalised weights, the largest over the neighbours, then bias and cut. -/
def kerResult (A : Args) (r : Fin 2048) (n : Fin 1024) : EReal :=
  max (Finset.univ.sup (fun j : Fin 16 => ∑ k, A.kerRow r j k * (A.w2 k n * (A.g2 n * Ideal.div 1 spread)))
    + (A.b2 n * (A.g2 n * Ideal.div 1 spread) + A.t2 n)) 0

/-- The reference's result: for every neighbour product, bias, normalisation and cut, then the largest. -/
def refResult (A : Args) (r : Fin 2048) (n : Fin 1024) : EReal :=
  Finset.univ.sup (fun j : Fin 16 =>
    max (Ideal.div (∑ k, A.refRow r j k * A.w2 k n + A.b2 n) spread * A.g2 n + A.t2 n) 0)

/-- All arguments but the last two biases are real. -/
structure AllReal (A : Args) : Prop where
  pos : ∀ r d, IsReal (A.pos r d)
  hid : ∀ r x, IsReal (A.hid r x)
  ws : ∀ d x, IsReal (A.ws d x)
  bs : ∀ x, IsReal (A.bs x)
  w1 : ∀ x k, IsReal (A.w1 x k)
  b1 : ∀ k, IsReal (A.b1 k)
  g1 : ∀ k, IsReal (A.g1 k)
  t1 : ∀ k, IsReal (A.t1 k)
  w2 : ∀ k n, IsReal (A.w2 k n)
  g2 : ∀ n, IsReal (A.g2 n)

/-- The reference's hidden entries are real. -/
theorem refRow_real {A : Args} (h : A.AllReal) (r : Fin 2048) (j : Fin 16) (k : Fin 512) : IsReal (A.refRow r j k) :=
  refHidden_real 1 _ _ _ _ _ _ _ _ _ _ ⟨1, rfl⟩ (h.pos _) (h.pos _) (h.hid _) h.ws h.bs (fun _ => h.w1 _ _)
    (fun _ => h.w1 _ _) (h.b1 _) (h.g1 _) (h.t1 _)

/-- The hidden entries of the two programs agree. -/
theorem row_eq {A : Args} (h : A.AllReal) (r : Fin 2048) (j : Fin 16) (k : Fin 512) : A.kerRow r j k = A.refRow r j k :=
  hidden_eq _ _ _ _ _ _ _ _ _ _ (h.pos _) (h.pos _) (h.hid _) h.ws h.bs (fun _ => h.w1 _ _)
    (fun _ => h.w1 _ _) (h.b1 _) (h.g1 _) (h.t1 _)

/-- The two results agree. -/
theorem result_eq {A : Args} (h : A.AllReal) (r : Fin 2048) (n : Fin 1024) : A.kerResult r n = A.refResult r n := by
  unfold kerResult refResult
  rw [← sup_layer]
  refine Finset.sup_congr rfl fun j _ => ?_
  refine congrArg (fun z => max z 0) ?_
  rw [layer_eq (A.refRow r j) (fun k => A.w2 k n) (A.g2 n) (A.b2 n) (A.t2 n) (refRow_real h r j) (fun k => h.w2 k n) (h.g2 n)]
  refine congrArg (fun z => z + _) (Finset.sum_congr rfl fun k _ => ?_)
  rw [row_eq h]

end Args

end Pooling

end
-- ==== Proof.KernelArray.lean ====
module

public import proofs.«01_k».proof.Proof.BlockRun
public import proofs.«01_k».proof.Proof.Equation

/-!
# What the kernel's result array holds

Every block a point works on is a part of an argument array: the positions and the hidden states are cut into two halves of
1024 rows, the weights are whole. With the blocks read off the arrays, the result at an index is a formula in the arguments.
-/

@[expose] public section

set_option maxRecDepth 16384

noncomputable section

namespace Cert.KernelIdeal.Block

open Cert.KernelIdeal Cert.KernelIdeal.Gen Idealize.ShloMosaic Idealize.ShloMosaic.TcCoe Pooling

variable (m : (ℓ : Loc nD τ sig) → Buf (Elt Ideal) ℓ) (c : Dev nD)

/-- The positions and the hidden states move with the point. -/
theorem index_moving : ∀ t : Fin cfg0.N, win0_0.index t = ![t.val, 0] ∧ win0_1.index t = ![t.val, 0] := by
  decide +kernel

/-- Every other operand is one block, the same at both points. -/
theorem index_fixed : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] := by
  decide +kernel

/-- There are two points. -/
theorem point_lt (t : Fin cfg0.N) : t.val < 2 := lt_of_lt_of_eq t.isLt N_0

/-- The positions of point `t` are rows `1024 t` to `1024 t + 1023`. -/
theorem read_pos (t : Fin cfg0.N) (r : Fin 1024) (d : Fin 2) :
    iblk m c 0 t (ix2 r d) = m ((c : Thread nD τ).loc main_arg2) (ix2 ⟨t.val * 1024 + r.val, by have := point_lt t; omega⟩ d) := by
  blk_ext! [iblk, V, index_moving t]

/-- The hidden states of point `t` are those same rows of the hidden-state array. -/
theorem read_hid (t : Fin cfg0.N) (r : Fin 1024) (x : Fin 64) :
    iblk m c 1 t (ix2 r x) = m ((c : Thread nD τ).loc main_arg0) (ix3 0 ⟨t.val * 1024 + r.val, by have := point_lt t; omega⟩ x) := by
  blk_ext! [iblk, V, index_moving t]

/-- The embedding weights. -/
theorem read_wsp (t : Fin cfg0.N) (d : Fin 2) (x : Fin 64) :
    iblk m c 2 t (ix2 d x) = m ((c : Thread nD τ).loc main_arg5) (ix2 d x) := by
  blk_ext! [iblk, V, index_fixed t]

/-- The embedding bias, a row. -/
theorem read_bsp (t : Fin cfg0.N) (x : Fin 64) :
    iblk m c 3 t (ix2 0 x) = m ((c : Thread nD τ).loc main_arg6) (ix1 x) := by
  blk_ext! [iblk, V, index_fixed t]

/-- The upper half of the first layer's weights is rows 0 to 63. -/
theorem read_upper (t : Fin cfg0.N) (x : Fin 64) (k : Fin 512) :
    upper m c t (ix2 x k) = m ((c : Thread nD τ).loc main_arg17) (ix2 ⟨x.val, by omega⟩ k) := by
  unfold upper
  pointwise
  blk_ext! [iblk, V, index_fixed t]

/-- The lower half is rows 64 to 127. -/
theorem read_lower (t : Fin cfg0.N) (x : Fin 64) (k : Fin 512) :
    lower m c t (ix2 x k) = m ((c : Thread nD τ).loc main_arg17) (ix2 ⟨64 + x.val, by omega⟩ k) := by
  unfold lower
  pointwise
  blk_ext! [iblk, V, index_fixed t]

/-- The first layer's bias. -/
theorem read_b1 (t : Fin cfg0.N) (k : Fin 512) :
    iblk m c 5 t (ix2 0 k) = m ((c : Thread nD τ).loc main_arg18) (ix1 k) := by
  blk_ext! [iblk, V, index_fixed t]

/-- The first layer's gain. -/
theorem read_g1 (t : Fin cfg0.N) (k : Fin 512) :
    iblk m c 6 t (ix2 0 k) = m ((c : Thread nD τ).loc main_arg19) (ix1 k) := by
  blk_ext! [iblk, V, index_fixed t]

/-- The first layer's shift. -/
theorem read_t1 (t : Fin cfg0.N) (k : Fin 512) :
    iblk m c 7 t (ix2 0 k) = m ((c : Thread nD τ).loc main_arg20) (ix1 k) := by
  blk_ext! [iblk, V, index_fixed t]

/-- The second layer's weights. -/
theorem read_w2 (t : Fin cfg0.N) (k : Fin 512) (n : Fin 1024) :
    iblk m c 8 t (ix2 k n) = m ((c : Thread nD τ).loc main_arg21) (ix2 k n) := by
  blk_ext! [iblk, V, index_fixed t]

/-- The second layer's bias. -/
theorem read_b2 (t : Fin cfg0.N) (n : Fin 1024) :
    iblk m c 9 t (ix2 0 n) = m ((c : Thread nD τ).loc main_arg22) (ix1 n) := by
  blk_ext! [iblk, V, index_fixed t]

/-- The second layer's gain. -/
theorem read_g2 (t : Fin cfg0.N) (n : Fin 1024) :
    iblk m c 10 t (ix2 0 n) = m ((c : Thread nD τ).loc main_arg23) (ix1 n) := by
  blk_ext! [iblk, V, index_fixed t]

/-- The second layer's shift. -/
theorem read_t2 (t : Fin cfg0.N) (n : Fin 1024) :
    iblk m c 11 t (ix2 0 n) = m ((c : Thread nD τ).loc main_arg24) (ix1 n) := by
  blk_ext! [iblk, V, index_fixed t]

/-- The argument arrays that reach the result. -/
def args : Args where
  pos r d := m ((c : Thread nD τ).loc main_arg2) (ix2 r d)
  hid r x := m ((c : Thread nD τ).loc main_arg0) (ix3 0 r x)
  ws d x := m ((c : Thread nD τ).loc main_arg5) (ix2 d x)
  bs x := m ((c : Thread nD τ).loc main_arg6) (ix1 x)
  w1 x k := m ((c : Thread nD τ).loc main_arg17) (ix2 x k)
  b1 k := m ((c : Thread nD τ).loc main_arg18) (ix1 k)
  g1 k := m ((c : Thread nD τ).loc main_arg19) (ix1 k)
  t1 k := m ((c : Thread nD τ).loc main_arg20) (ix1 k)
  w2 k n := m ((c : Thread nD τ).loc main_arg21) (ix2 k n)
  b2 n := m ((c : Thread nD τ).loc main_arg22) (ix1 n)
  g2 n := m ((c : Thread nD τ).loc main_arg23) (ix1 n)
  t2 n := m ((c : Thread nD τ).loc main_arg24) (ix1 n)

/-- The result array at an index is the kernel's formula in the argument arrays. -/
theorem result_apply (r : Fin 2048) (n : Fin 1024) : Value.G12 m c (ix2 r n) = (args m c).kerResult r n := by
  have hp : Value.pt12Of (ix2 r n) = r.val / 1024 := by
    show 1 * (r.val / 1024 - 0) + 1 * (n.val / 1024 - 0) = r.val / 1024
    omega
  have hl : Value.loc12Of (ix2 r n) = ix2 ⟨r.val % 1024, by omega⟩ n := by
    funext a
    apply Fin.ext
    match a with
    | ⟨0, _⟩ => rfl
    | ⟨1, _⟩ => show n.val % 1024 = n.val; omega
  have ht : r.val / 1024 < cfg0.N := lt_of_lt_of_eq (by omega) N_0.symm
  have e : Value.G12 m c (ix2 r n) = (outsAt0 m c (r.val / 1024) ht).1 (ix2 ⟨r.val % 1024, by omega⟩ n) := by
    have h : Value.pt12Of (ix2 r n) < cfg0.N := by rw [hp]; exact ht
    unfold Value.G12
    rw [dif_pos h, hl, ← Value.outsAt0_sweep m c _ h]
    simp only [hp]
  have hi : (⟨r.val / 1024 * 1024 + r.val % 1024, by omega⟩ : Fin 2048) = r := Fin.ext (by dsimp only; omega)
  have hj : ∀ j : Fin 16, (⟨r.val / 1024 * 1024 + (r.val % 1024 / 16 * 16 + j.val), by omega⟩ : Fin 2048)
      = ⟨r.val / 16 * 16 + j.val, by omega⟩ := fun j => Fin.ext (by dsimp only; omega)
  rw [e, out_eq m c ⟨r.val / 1024, ht⟩]
  unfold tables
  dsimp only
  rw [block_tables]
  simp only [read_pos, read_hid, read_wsp, read_bsp, read_upper, read_lower, read_b1, read_g1, read_t1, read_w2, read_b2,
    read_g2, read_t2, hi, hj]
  rfl

end Cert.KernelIdeal.Block

end
-- ==== Proof.RefStages.lean ====
module

public import proofs.«01_k».proof.Proof.Gen.ReferenceIdeal.Run
public import proofs.«01_k».proof.Proof.Equation

/-!
# The reference in stages

The reference's result is one long expression of the argument arrays. It is cut here at the points where the mathematics
has a name: the embedding of a pair's relative position, the embedding of the velocity, the two layers of the attention
network, its normalisation, and the two layers of the pooling network. `result_eq` says that the expression is their
composition; the other theorems say what each stage holds at an index.
-/

@[expose] public section

set_option maxRecDepth 16384

noncomputable section

namespace Cert.ReferenceIdeal.Stages

open Cert.ReferenceIdeal Cert.ReferenceIdeal.Gen Cert.ReferenceIdeal.Value Idealize.ShloMosaic Idealize.ShloMosaic.TcCoe Pooling

/-- The embedding of the position of `j` relative to `i`, for every pair of a sequence. -/
def relEmb (pos : FVec Ideal S2048x2 .f32) (w : FVec Ideal S2x64 .f32) (b : FVec Ideal S64 .f32) :
    FVec Ideal S128x16x16x64 .f32 :=
  addf (Host.dotGeneral dot_S128x16x16x2_S2x64_S128x16x16x64_3_0_012_1_n_n none (subf (broadcastInDim S128x16x16x2 ![0, 1, 2, 3] bcast_S128x1x16x2_S128x16x16x2_0_1_2_3 (broadcastInDim S128x1x16x2 ![0, 2, 3] bcast_S128x16x2_S128x1x16x2_0_2_3 (shapeCast _ pos shapeCasts_S2048x2_S128x16x2))) (broadcastInDim S128x16x16x2 ![0, 1, 2, 3] bcast_S128x16x1x2_S128x16x16x2_0_1_2_3 (broadcastInDim S128x16x1x2 ![0, 1, 3] bcast_S128x16x2_S128x16x1x2_0_1_3 (shapeCast _ pos shapeCasts_S2048x2_S128x16x2)))) w) (broadcastInDim S128x16x16x64 ![0, 1, 2, 3] bcast_S1x1x1x64_S128x16x16x64_0_1_2_3 (broadcastInDim S1x1x1x64 ![3] bcast_S64_S1x1x1x64_3 b))

/-- The embedding of the last velocity of `i`, repeated over `j`. -/
def velEmb (vx vy : FVec Ideal S8x2048 .f32) (w : FVec Ideal S2x64 .f32) (b : FVec Ideal S64 .f32) :
    FVec Ideal S128x16x16x64 .f32 :=
  addf (Host.dotGeneral dot_S128x16x16x2_S2x64_S128x16x16x64_3_0_012_1_n_n none (broadcastInDim S128x16x16x2 ![0, 1, 2, 3] bcast_S128x16x1x2_S128x16x16x2_0_1_2_3 (broadcastInDim S128x16x1x2 ![0, 1, 3] bcast_S128x16x2_S128x16x1x2_0_1_3 (concatenate S128x16x2 2 [⟨S128x16x1, (broadcastInDim S128x16x1 ![0, 1] bcast_S128x16_S128x16x1_0_1 (shapeCast _ (shapeCast _ (extractStridedSlice S1x2048 ![7, 0] vx slices_S8x2048_S1x2048_7_0) shapeCasts_S1x2048_S2048) shapeCasts_S2048_S128x16))⟩, ⟨S128x16x1, (broadcastInDim S128x16x1 ![0, 1] bcast_S128x16_S128x16x1_0_1 (shapeCast _ (shapeCast _ (extractStridedSlice S1x2048 ![7, 0] vy slices_S8x2048_S1x2048_7_0) shapeCasts_S1x2048_S2048) shapeCasts_S2048_S128x16))⟩] concatenates_S128x16x1_S128x16x1_S128x16x2_d2))) w) (broadcastInDim S128x16x16x64 ![0, 1, 2, 3] bcast_S1x1x1x64_S128x16x16x64_0_1_2_3 (broadcastInDim S1x1x1x64 ![3] bcast_S64_S1x1x1x64_3 b))

/-- The first layer of the attention network. -/
def attHidden (e v : FVec Ideal S128x16x16x64 .f32) (w : FVec Ideal S128x1024 .f32) (b g t : FVec Ideal S1024 .f32) :
    FVec Ideal S128x16x16x1024 .f32 :=
  maximumf (addf (mulf (Host.divf (addf (Host.dotGeneral dot_S128x16x16x128_S128x1024_S128x16x16x1024_3_0_012_1_n_n none (concatenate S128x16x16x128 3 [⟨S128x16x16x64, e⟩, ⟨S128x16x16x64, v⟩] concatenates_S128x16x16x64_S128x16x16x64_S128x16x16x128_d3) w) (broadcastInDim S128x16x16x1024 ![0, 1, 2, 3] bcast_S1x1x1x1024_S128x16x16x1024_0_1_2_3 (broadcastInDim S1x1x1x1024 ![3] bcast_S1024_S1x1x1x1024_3 b))) (broadcastInDim S128x16x16x1024 ![] bcast_S_S128x16x16x1024 (id (Host.sqrt (constant S_ .f32 0x3F800054#32))))) (broadcastInDim S128x16x16x1024 ![0, 1, 2, 3] bcast_S1x1x1x1024_S128x16x16x1024_0_1_2_3 (broadcastInDim S1x1x1x1024 ![3] bcast_S1024_S1x1x1x1024_3 g))) (broadcastInDim S128x16x16x1024 ![0, 1, 2, 3] bcast_S1x1x1x1024_S128x16x16x1024_0_1_2_3 (broadcastInDim S1x1x1x1024 ![3] bcast_S1024_S1x1x1x1024_3 t))) (broadcastInDim S128x16x16x1024 ![] bcast_S_S128x16x16x1024 (constant S_ .f32 0x00000000#32))

/-- The second layer of the attention network: one score for every pair. -/
def attScore (x : FVec Ideal S128x16x16x1024 .f32) (w : FVec Ideal S1024x1 .f32) (b g t : FVec Ideal S1 .f32) :
    FVec Ideal S128x16x16x1 .f32 :=
  maximumf (addf (mulf (Host.divf (addf (Host.dotGeneral dot_S128x16x16x1024_S1024x1_S128x16x16x1_3_0_012_1_n_n none x w) (broadcastInDim S128x16x16x1 ![0, 1, 2, 3] bcast_S1x1x1x1_S128x16x16x1_0_1_2_3 (broadcastInDim S1x1x1x1 ![3] bcast_S1_S1x1x1x1_3 b))) (broadcastInDim S128x16x16x1 ![] bcast_S_S128x16x16x1 (id (Host.sqrt (constant S_ .f32 0x3F800054#32))))) (broadcastInDim S128x16x16x1 ![0, 1, 2, 3] bcast_S1x1x1x1_S128x16x16x1_0_1_2_3 (broadcastInDim S1x1x1x1 ![3] bcast_S1_S1x1x1x1_3 g))) (broadcastInDim S128x16x16x1 ![0, 1, 2, 3] bcast_S1x1x1x1_S128x16x16x1_0_1_2_3 (broadcastInDim S1x1x1x1 ![3] bcast_S1_S1x1x1x1_3 t))) (broadcastInDim S128x16x16x1 ![] bcast_S_S128x16x16x1 (constant S_ .f32 0x00000000#32))

/-- The exponentials of the scores, each lowered by the largest score along the axis of length one. -/
def attExp (s : FVec Ideal S128x16x16x1 .f32) : FVec Ideal S128x16x16x1 .f32 :=
  Host.exp (subf s (broadcastInDim S128x16x16x1 ![0, 1, 2] bcast_S128x16x16_S128x16x16x1_0_1_2 (maximumf (broadcastInDim S128x16x16 ![] bcast_S_S128x16x16 (constant S_ .f32 0xFF800000#32)) (Host.reduce FloatOps.maximumf s (constant S_ .f32 0xFF800000#32) reducesTo_S128x16x16x1_S128x16x16_d3 h_S_))))

/-- The scores normalised along the axis of length one. -/
def attention (s : FVec Ideal S128x16x16x1 .f32) : FVec Ideal S128x16x16x1 .f32 :=
  Host.divf (attExp s) (broadcastInDim S128x16x16x1 ![0, 1, 2] bcast_S128x16x16_S128x16x16x1_0_1_2 (Host.reduceAdd (attExp s) (constant S_ .f32 0x00000000#32) reducesTo_S128x16x16x1_S128x16x16_d3 h_S_))

/-- The pooling network's input: the pair's embedding beside the hidden state of `j`, weighted by the attention. -/
def poolInput (e : FVec Ideal S128x16x16x64 .f32) (h : FVec Ideal S1x2048x64 .f32) (a : FVec Ideal S128x16x16x1 .f32) :
    FVec Ideal S128x16x16x128 .f32 :=
  mulf (concatenate S128x16x16x128 3 [⟨S128x16x16x64, e⟩, ⟨S128x16x16x64, (broadcastInDim S128x16x16x64 ![0, 1, 2, 3] bcast_S128x1x16x64_S128x16x16x64_0_1_2_3 (broadcastInDim S128x1x16x64 ![0, 2, 3] bcast_S128x16x64_S128x1x16x64_0_2_3 (shapeCast _ (shapeCast _ h shapeCasts_S1x2048x64_S2048x64) shapeCasts_S2048x64_S128x16x64)))⟩] concatenates_S128x16x16x64_S128x16x16x64_S128x16x16x128_d3) (broadcastInDim S128x16x16x128 ![0, 1, 2, 3] bcast_S128x16x16x1_S128x16x16x128_0_1_2_3 (mulf (broadcastInDim S128x16x16x1 ![] bcast_S_S128x16x16x1 (constant S_ .f32 0x3D4CCCCD#32)) a))

/-- The first layer of the pooling network. -/
def poolHidden (x : FVec Ideal S128x16x16x128 .f32) (w : FVec Ideal S128x512 .f32) (b g t : FVec Ideal S512 .f32) :
    FVec Ideal S128x16x16x512 .f32 :=
  maximumf (addf (mulf (Host.divf (addf (Host.dotGeneral dot_S128x16x16x128_S128x512_S128x16x16x512_3_0_012_1_n_n none x w) (broadcastInDim S128x16x16x512 ![0, 1, 2, 3] bcast_S1x1x1x512_S128x16x16x512_0_1_2_3 (broadcastInDim S1x1x1x512 ![3] bcast_S512_S1x1x1x512_3 b))) (broadcastInDim S128x16x16x512 ![] bcast_S_S128x16x16x512 (id (Host.sqrt (constant S_ .f32 0x3F800054#32))))) (broadcastInDim S128x16x16x512 ![0, 1, 2, 3] bcast_S1x1x1x512_S128x16x16x512_0_1_2_3 (broadcastInDim S1x1x1x512 ![3] bcast_S512_S1x1x1x512_3 g))) (broadcastInDim S128x16x16x512 ![0, 1, 2, 3] bcast_S1x1x1x512_S128x16x16x512_0_1_2_3 (broadcastInDim S1x1x1x512 ![3] bcast_S512_S1x1x1x512_3 t))) (broadcastInDim S128x16x16x512 ![] bcast_S_S128x16x16x512 (constant S_ .f32 0x00000000#32))

/-- The second layer of the pooling network. -/
def poolOut (x : FVec Ideal S128x16x16x512 .f32) (w : FVec Ideal S512x1024 .f32) (b g t : FVec Ideal S1024 .f32) :
    FVec Ideal S128x16x16x1024 .f32 :=
  maximumf (addf (mulf (Host.divf (addf (Host.dotGeneral dot_S128x16x16x512_S512x1024_S128x16x16x1024_3_0_012_1_n_n none x w) (broadcastInDim S128x16x16x1024 ![0, 1, 2, 3] bcast_S1x1x1x1024_S128x16x16x1024_0_1_2_3 (broadcastInDim S1x1x1x1024 ![3] bcast_S1024_S1x1x1x1024_3 b))) (broadcastInDim S128x16x16x1024 ![] bcast_S_S128x16x16x1024 (id (Host.sqrt (constant S_ .f32 0x3F800054#32))))) (broadcastInDim S128x16x16x1024 ![0, 1, 2, 3] bcast_S1x1x1x1024_S128x16x16x1024_0_1_2_3 (broadcastInDim S1x1x1x1024 ![3] bcast_S1024_S1x1x1x1024_3 g))) (broadcastInDim S128x16x16x1024 ![0, 1, 2, 3] bcast_S1x1x1x1024_S128x16x16x1024_0_1_2_3 (broadcastInDim S1x1x1x1024 ![3] bcast_S1024_S1x1x1x1024_3 t))) (broadcastInDim S128x16x16x1024 ![] bcast_S_S128x16x16x1024 (constant S_ .f32 0x00000000#32))

/-- The largest output over `j`, one row for every `i`. -/
def pooled (y : FVec Ideal S128x16x16x1024 .f32) : FVec Ideal S2048x1024 .f32 :=
  shapeCast _ (Host.reduce FloatOps.maximumf y (constant S_ .f32 0xFF800000#32) reducesTo_S128x16x16x1024_S128x16x1024_d2 h_S_) shapeCasts_S128x16x1024_S2048x1024

variable (m : (ℓ : Loc nD τ sig) → Buf (Elt Ideal) ℓ) (c : Dev nD)

/-- The pair embedding of the argument arrays. -/
def argEmb : FVec Ideal S128x16x16x64 .f32 :=
  relEmb (m ((c : Thread nD τ).loc main_arg2)) (m ((c : Thread nD τ).loc main_arg5)) (m ((c : Thread nD τ).loc main_arg6))

/-- The attention scores of the argument arrays. -/
def argScore : FVec Ideal S128x16x16x1 .f32 :=
  attScore
    (attHidden (argEmb m c)
      (velEmb (m ((c : Thread nD τ).loc main_arg3)) (m ((c : Thread nD τ).loc main_arg4))
        (m ((c : Thread nD τ).loc main_arg7)) (m ((c : Thread nD τ).loc main_arg8)))
      (m ((c : Thread nD τ).loc main_arg9)) (m ((c : Thread nD τ).loc main_arg10))
      (m ((c : Thread nD τ).loc main_arg11)) (m ((c : Thread nD τ).loc main_arg12)))
    (m ((c : Thread nD τ).loc main_arg13)) (m ((c : Thread nD τ).loc main_arg14))
    (m ((c : Thread nD τ).loc main_arg15)) (m ((c : Thread nD τ).loc main_arg16))

/-- The reference's result is its stages composed. -/
theorem result_eq : res_out0 m c =
    pooled (poolOut
      (poolHidden (poolInput (argEmb m c) (m ((c : Thread nD τ).loc main_arg0)) (attention (argScore m c)))
        (m ((c : Thread nD τ).loc main_arg17)) (m ((c : Thread nD τ).loc main_arg18))
        (m ((c : Thread nD τ).loc main_arg19)) (m ((c : Thread nD τ).loc main_arg20)))
      (m ((c : Thread nD τ).loc main_arg21)) (m ((c : Thread nD τ).loc main_arg22))
      (m ((c : Thread nD τ).loc main_arg23)) (m ((c : Thread nD τ).loc main_arg24))) := by
  unfold res_out0 res_main_v105
  rfl

/-- The pair embedding at an index. -/
theorem relEmb_apply (pos : FVec Ideal S2048x2 .f32) (w : FVec Ideal S2x64 .f32) (b : FVec Ideal S64 .f32)
    (s : Fin 128) (i j : Fin 16) (e : Fin 64) :
    relEmb pos w b (ix4 s i j e)
      = ∑ d, (pos (ix2 ⟨s.val * 16 + j.val, by omega⟩ d) - pos (ix2 ⟨s.val * 16 + i.val, by omega⟩ d)) * w (ix2 d e)
        + b (ix1 e) := by
  pointwise [relEmb]

/-- The velocity embedding is real where the last velocities and its weights are. -/
theorem velEmb_real (vx vy : FVec Ideal S8x2048 .f32) (w : FVec Ideal S2x64 .f32) (b : FVec Ideal S64 .f32)
    (hx : ∀ r, IsReal (vx (ix2 7 r))) (hy : ∀ r, IsReal (vy (ix2 7 r))) (hw : ∀ d e, IsReal (w (ix2 d e)))
    (hb : ∀ e, IsReal (b (ix1 e))) (s : Fin 128) (i j : Fin 16) (e : Fin 64) :
    IsReal (velEmb vx vy w b (ix4 s i j e)) := by
  pointwise [velEmb]
  exact (((IsReal.sum _ fun _ => (hx _).mul (hw _ _)).add (IsReal.sum _ fun _ => (hy _).mul (hw _ _))).add (hb _))

/-- The attention network's first layer is real where its input and its weights are. -/
theorem attHidden_real (e v : FVec Ideal S128x16x16x64 .f32) (w : FVec Ideal S128x1024 .f32) (b g t : FVec Ideal S1024 .f32)
    (s : Fin 128) (i j : Fin 16) (he : ∀ x, IsReal (e (ix4 s i j x))) (hv : ∀ x, IsReal (v (ix4 s i j x)))
    (hw : ∀ x k, IsReal (w (ix2 x k))) (hb : ∀ k, IsReal (b (ix1 k))) (hg : ∀ k, IsReal (g (ix1 k)))
    (ht : ∀ k, IsReal (t (ix1 k))) (k : Fin 1024) :
    IsReal (attHidden e v w b g t (ix4 s i j k)) := by
  pointwise [attHidden]
  exact ((((((IsReal.sum _ fun _ => (he _).mul (hw _ _)).add (IsReal.sum _ fun _ => (hv _).mul (hw _ _))).add
    (hb _)).div_spread).mul (hg _)).add (ht _)).max IsReal.zero

/-- The score of a pair is real where its hidden row and the weights are. -/
theorem attScore_real (x : FVec Ideal S128x16x16x1024 .f32) (w : FVec Ideal S1024x1 .f32) (b g t : FVec Ideal S1 .f32)
    (s : Fin 128) (i j : Fin 16) (hx : ∀ k, IsReal (x (ix4 s i j k))) (hw : ∀ k, IsReal (w (ix2 k 0)))
    (hb : IsReal (b (ix1 0))) (hg : IsReal (g (ix1 0))) (ht : IsReal (t (ix1 0))) :
    IsReal (attScore x w b g t (ix4 s i j 0)) := by
  pointwise [attScore]
  exact (((((IsReal.sum _ fun _ => (hx _).mul (hw _)).add hb).div_spread).mul hg).add ht).max IsReal.zero

/-- Normalised along an axis of length one, a real score becomes one. -/
theorem attention_one (x : FVec Ideal S128x16x16x1 .f32) (s : Fin 128) (i j : Fin 16) (hx : IsReal (x (ix4 s i j 0))) :
    attention x (ix4 s i j 0) = 1 := by
  pointwise [attention, attExp]
  rw [start_eq, Fin.sum_univ_one]
  have e : max ⊥ (Finset.fold max ⊥ (fun k : Fin 1 => x (ix4 s i j k)) Finset.univ) = x (ix4 s i j 0) := by
    simp
  rw [e]
  exact softmax_one hx

/-- The hidden entry of a pair. -/
theorem poolHidden_apply (pos : FVec Ideal S2048x2 .f32) (ws : FVec Ideal S2x64 .f32) (bs : FVec Ideal S64 .f32)
    (h : FVec Ideal S1x2048x64 .f32) (a : FVec Ideal S128x16x16x1 .f32)
    (w : FVec Ideal S128x512 .f32) (b g t : FVec Ideal S512 .f32) (s : Fin 128) (i j : Fin 16) (k : Fin 512) :
    poolHidden (poolInput (relEmb pos ws bs) h a) w b g t (ix4 s i j k)
      = refHidden (a (ix4 s i j 0)) (fun d => pos (ix2 ⟨s.val * 16 + i.val, by omega⟩ d))
          (fun d => pos (ix2 ⟨s.val * 16 + j.val, by omega⟩ d)) (fun x => h (ix3 0 ⟨s.val * 16 + j.val, by omega⟩ x))
          (fun d x => ws (ix2 d x)) (fun x => bs (ix1 x)) (fun x => w (ix2 ⟨x.val, by omega⟩ k))
          (fun x => w (ix2 ⟨64 + x.val, by omega⟩ k)) (b (ix1 k)) (g (ix1 k)) (t (ix1 k)) := by
  unfold refHidden
  simp only [← relEmb_apply]
  generalize relEmb pos ws bs = e
  pointwise [poolHidden, poolInput]
  rfl

/-- The result at an index: the largest output over the sixteen neighbours. -/
theorem pooled_apply (x : FVec Ideal S128x16x16x512 .f32) (w : FVec Ideal S512x1024 .f32) (b g t : FVec Ideal S1024 .f32)
    (r : Fin 2048) (n : Fin 1024) :
    pooled (poolOut x w b g t) (ix2 r n)
      = Finset.univ.sup (fun j : Fin 16 => max (Ideal.div (∑ k, x (ix4 (⟨r.val / 16, by omega⟩ : Fin 128)
          (⟨r.val % 16, by omega⟩ : Fin 16) j k) * w (ix2 k n) + b (ix1 n)) spread * g (ix1 n) + t (ix1 n)) 0) := by
  pointwise [pooled, poolOut]
  rw [start_eq]
  rfl

/-- The argument arrays that reach the result. -/
def args : Args where
  pos r d := m ((c : Thread nD τ).loc main_arg2) (ix2 r d)
  hid r x := m ((c : Thread nD τ).loc main_arg0) (ix3 0 r x)
  ws d x := m ((c : Thread nD τ).loc main_arg5) (ix2 d x)
  bs x := m ((c : Thread nD τ).loc main_arg6) (ix1 x)
  w1 x k := m ((c : Thread nD τ).loc main_arg17) (ix2 x k)
  b1 k := m ((c : Thread nD τ).loc main_arg18) (ix1 k)
  g1 k := m ((c : Thread nD τ).loc main_arg19) (ix1 k)
  t1 k := m ((c : Thread nD τ).loc main_arg20) (ix1 k)
  w2 k n := m ((c : Thread nD τ).loc main_arg21) (ix2 k n)
  b2 n := m ((c : Thread nD τ).loc main_arg22) (ix1 n)
  g2 n := m ((c : Thread nD τ).loc main_arg23) (ix1 n)
  t2 n := m ((c : Thread nD τ).loc main_arg24) (ix1 n)

/-- The arguments of the attention network are real: the last row of each velocity array and all its weights. -/
structure AttReal (vx vy : FVec Ideal S8x2048 .f32) (wv : FVec Ideal S2x64 .f32) (bv : FVec Ideal S64 .f32)
    (w1 : FVec Ideal S128x1024 .f32) (b1 g1 t1 : FVec Ideal S1024 .f32) (w2 : FVec Ideal S1024x1 .f32)
    (b2 g2 t2 : FVec Ideal S1 .f32) : Prop where
  vx : ∀ r, IsReal (vx (ix2 7 r))
  vy : ∀ r, IsReal (vy (ix2 7 r))
  wv : ∀ d e, IsReal (wv (ix2 d e))
  bv : ∀ e, IsReal (bv (ix1 e))
  w1 : ∀ x k, IsReal (w1 (ix2 x k))
  b1 : ∀ k, IsReal (b1 (ix1 k))
  g1 : ∀ k, IsReal (g1 (ix1 k))
  t1 : ∀ k, IsReal (t1 (ix1 k))
  w2 : ∀ k, IsReal (w2 (ix2 k 0))
  b2 : IsReal (b2 (ix1 0))
  g2 : IsReal (g2 (ix1 0))
  t2 : IsReal (t2 (ix1 0))

/-- `AttReal` of the arrays the memory holds. -/
abbrev ArgsAttReal : Prop :=
  AttReal (m ((c : Thread nD τ).loc main_arg3)) (m ((c : Thread nD τ).loc main_arg4)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))

/-- On real arguments every attention score is real. -/
theorem argScore_real (h : (args m c).AllReal) (ha : ArgsAttReal m c) (s : Fin 128) (i j : Fin 16) :
    IsReal (argScore m c (ix4 s i j 0)) := by
  refine attScore_real _ _ _ _ _ s i j (fun k => ?_) ha.w2 ha.b2 ha.g2 ha.t2
  refine attHidden_real _ _ _ _ _ _ s i j (fun e => ?_) (fun e => ?_) ha.w1 ha.b1 ha.g1 ha.t1 k
  · unfold argEmb
    rw [relEmb_apply]
    exact (IsReal.sum _ fun d => ((h.pos _ d).sub (h.pos _ d)).mul (h.ws d e)).add (h.bs e)
  · exact velEmb_real _ _ _ _ ha.vx ha.vy ha.wv ha.bv s i j e

/-- On real arguments the reference's result at an index is the reference's formula in the argument arrays. -/
theorem result_apply (h : (args m c).AllReal) (ha : ArgsAttReal m c) (r : Fin 2048) (n : Fin 1024) :
    res_out0 m c (ix2 r n) = (args m c).refResult r n := by
  have hr : (⟨r.val / 16 * 16 + r.val % 16, by omega⟩ : Fin 2048) = r := Fin.ext (by dsimp only; omega)
  rw [result_eq, pooled_apply]
  unfold argEmb
  simp only [poolHidden_apply, attention_one _ _ _ _ (argScore_real m c h ha _ _ _), hr]
  rfl

end Cert.ReferenceIdeal.Stages

end
-- ==== Proof.Precondition.lean ====
module

public import proofs.«01_k».proof.Defs
public import proofs.«01_k».proof.Proof.KernelArray
public import proofs.«01_k».proof.Proof.RefStages

/-!
# What the precondition gives

The precondition says of an array that the absolute value of every entry is below infinity. Here that is turned into the
facts the equation uses: the entries are real numbers.
-/

@[expose] public section

set_option maxRecDepth 16384

noncomputable section

namespace Cert.Precondition

open Idealize.ShloMosaic Idealize.ShloMosaic.TcCoe Pooling

/-- An array whose absolute values all compare below infinity has real entries. -/
theorem real_of_lt {s : Shape} (x : FVec Ideal s .f32) (hb : (⟨0, ![]⟩ : Shape).BroadcastsInDim s ![])
    (h : cmpf .olt (Host.absf x) (broadcastInDim s ![] hb (constant (⟨0, ![]⟩ : Shape) .f32 0x7F800000#32)) = fun _ => 1#1)
    (i : s.Idx) : IsReal (x i) := by
  refine isReal_of_abs_lt ?_
  rw [← bound_eq]
  by_contra hn
  have h1 : BitVec.ofBool (decide (max (x i) (-(x i)) < Ideal.ofBits .f32 0x7F800000#32)) = 1#1 := congrFun h i
  rw [decide_eq_false hn] at h1
  exact absurd h1 (by decide)

/-- The entries of the last of eight rows are real when that row, cut out and flattened, compares below infinity. -/
theorem row_real (x : FVec Ideal ⟨2, ![8, 2048]⟩ .f32) (hs : (⟨2, ![8, 2048]⟩ : Shape).Slices ![7, 0] ⟨2, ![1, 2048]⟩)
    (hc : (⟨2, ![1, 2048]⟩ : Shape).ShapeCasts ⟨1, ![2048]⟩) (r : Fin 2048)
    (h : IsReal (shapeCast ⟨1, ![2048]⟩ (extractStridedSlice ⟨2, ![1, 2048]⟩ ![7, 0] x hs) hc (ix1 r))) :
    IsReal (x (ix2 7 r)) := by
  have e : shapeCast ⟨1, ![2048]⟩ (extractStridedSlice ⟨2, ![1, 2048]⟩ ![7, 0] x hs) hc (ix1 r) = x (ix2 7 r) := by
    pointwise
  rwa [← e]

variable [hp : Cert.Pre_finite_inputs.Facts]
variable {m : (ℓ : Loc Cert.KernelIdeal.nD Cert.KernelIdeal.τ Cert.KernelIdeal.sig) → Buf (Elt Ideal) ℓ}
variable (c : Dev Cert.KernelIdeal.nD)

open Cert.Pre_finite_inputs

/-- Under the precondition the arguments that reach the result are real, the last two biases aside. -/
theorem all_real (h : Pre_KernelIdeal_finite_inputs m) : (Cert.KernelIdeal.Block.args m c).AllReal := by
  obtain ⟨h0, h2, h3, h4, h5, h6, h7, h8, h9, h10, h11, h12, h13, h14, h15, h16, h17, h18, h19, h20, h21, h23⟩ := h c
  exact {
    pos := fun _ _ => real_of_lt _ Facts.bcast_S_S2048x2 h2 _
    hid := fun _ _ => real_of_lt _ Facts.bcast_S_S1x2048x64 h0 _
    ws := fun _ _ => real_of_lt _ Facts.bcast_S_S2x64 h5 _
    bs := fun _ => real_of_lt _ Facts.bcast_S_S64 h6 _
    w1 := fun _ _ => real_of_lt _ Facts.bcast_S_S128x512 h17 _
    b1 := fun _ => real_of_lt _ Facts.bcast_S_S512 h18 _
    g1 := fun _ => real_of_lt _ Facts.bcast_S_S512 h19 _
    t1 := fun _ => real_of_lt _ Facts.bcast_S_S512 h20 _
    w2 := fun _ _ => real_of_lt _ Facts.bcast_S_S512x1024 h21 _
    g2 := fun _ => real_of_lt _ Facts.bcast_S_S1024 h23 _ }

/-- Under the precondition the arguments of the attention network are real. -/
theorem att_real (h : Pre_KernelIdeal_finite_inputs m) :
    Cert.ReferenceIdeal.Stages.AttReal
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9))
      (m ((c : Thread Cert.KernelIdeal.nD Cert.KernelIdeal.τ).loc Cert.KernelIdeal.main_arg10))
      (m ((c : Thread Cert.KernelIdeal.nD Cert.KernelIdeal.τ).loc Cert.KernelIdeal.main_arg11))
      (m ((c : Thread Cert.KernelIdeal.nD Cert.KernelIdeal.τ).loc Cert.KernelIdeal.main_arg12))
      (m ((c : Thread Cert.KernelIdeal.nD Cert.KernelIdeal.τ).loc Cert.KernelIdeal.main_arg13))
      (m ((c : Thread Cert.KernelIdeal.nD Cert.KernelIdeal.τ).loc Cert.KernelIdeal.main_arg14))
      (m ((c : Thread Cert.KernelIdeal.nD Cert.KernelIdeal.τ).loc Cert.KernelIdeal.main_arg15))
      (m ((c : Thread Cert.KernelIdeal.nD Cert.KernelIdeal.τ).loc Cert.KernelIdeal.main_arg16)) := by
  obtain ⟨h0, h2, h3, h4, h5, h6, h7, h8, h9, h10, h11, h12, h13, h14, h15, h16, h17, h18, h19, h20, h21, h23⟩ := h c
  exact {
    vx := fun r => row_real _ Facts.slices_S8x2048_S1x2048_7_0 Facts.shapeCasts_S1x2048_S2048 r
      (real_of_lt _ Facts.bcast_S_S2048 h3 _)
    vy := fun r => row_real _ Facts.slices_S8x2048_S1x2048_7_0 Facts.shapeCasts_S1x2048_S2048 r
      (real_of_lt _ Facts.bcast_S_S2048 h4 _)
    wv := fun _ _ => real_of_lt _ Facts.bcast_S_S2x64 h7 _
    bv := fun _ => real_of_lt _ Facts.bcast_S_S64 h8 _
    w1 := fun _ _ => real_of_lt _ Facts.bcast_S_S128x1024 h9 _
    b1 := fun _ => real_of_lt _ Facts.bcast_S_S1024 h10 _
    g1 := fun _ => real_of_lt _ Facts.bcast_S_S1024 h11 _
    t1 := fun _ => real_of_lt _ Facts.bcast_S_S1024 h12 _
    w2 := fun _ => real_of_lt _ Facts.bcast_S_S1024x1 h13 _
    b2 := real_of_lt _ Facts.bcast_S_S1 h14 _
    g2 := real_of_lt _ Facts.bcast_S_S1 h15 _
    t2 := real_of_lt _ Facts.bcast_S_S1 h16 _ }

end Cert.Precondition

end
-- ==== Proof.lean ====
/-
  The certificate's claims, put together: the frames of the three programs, the empty rewriting between the two readings of
  the kernel, and the value claim, which is the equation of Proof/Equation.lean carried to the two result arrays.
-/
module

public import proofs.«01_k».proof.Defs
public import proofs.«01_k».proof.Proof.Precondition
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_inputs
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Pooling

/-- From any memory the reference runs to its end, leaves its arguments as they were and no signal pending. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the precondition holds of the kernel's memory and the reference's memory holds the same arguments, the two result
    arrays are equal. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hargs : Cert.ReferenceIdeal.Stages.args m' c = Cert.KernelIdeal.Block.args m c)
    (hreal : (Cert.KernelIdeal.Block.args m c).AllReal) (hatt : Cert.ReferenceIdeal.Stages.ArgsAttReal m' c) :
    Cert.ReferenceIdeal.Value.res_out0 m' c = Cert.KernelIdeal.Value.G12 m c := by
  funext i
  obtain ⟨r, n, rfl⟩ : ∃ (r : Fin 2048) (n : Fin 1024), i = ix2 r n := ⟨i 0, i 1, eq_ix2 i⟩
  refine (Cert.ReferenceIdeal.Stages.result_apply m' c (by rwa [hargs]) hatt r n).trans ?_
  rw [hargs]
  exact (Args.result_eq hreal r n).symm.trans (Cert.KernelIdeal.Block.result_apply m c r n).symm

/-- The value claim: on real arguments kernel and reference end with the same result. -/
theorem same_result : algebraic_KernelIdeal_ReferenceIdeal_pre_finite_inputs := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24⟩ :=
    hagree c
  refine results_agree m m' c ?_ (Cert.Precondition.all_real c hpre) ?_
  · unfold Cert.ReferenceIdeal.Stages.args Cert.KernelIdeal.Block.args
    rw [e0, e2, e5, e6, e17, e18, e19, e20, e21, e22, e23, e24]
  · unfold Cert.ReferenceIdeal.Stages.ArgsAttReal
    rw [e3, e4, e7, e8, e9, e10, e11, e12, e13, e14, e15, e16]
    exact Cert.Precondition.att_real c hpre

/-- All claims of the certificate. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    (trivial : preserves_Kernel_KernelIdeal), same_result⟩

end Cert.Proof

end
